-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 2048]⟩ ⟨3, ![2, 2048, 2048]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S16 : Shape := ⟨1, ![16]⟩
abbrev S8 : Shape := ⟨1, ![8]⟩
abbrev S1 : Shape := ⟨1, ![1]⟩
abbrev S_ : Shape := ⟨0, ![]⟩
abbrev S32x2048 : Shape := ⟨2, ![32, 2048]⟩
abbrev S1x32x2048 : Shape := ⟨3, ![1, 32, 2048]⟩
abbrev S32 : Shape := ⟨1, ![32]⟩
abbrev S32x1 : Shape := ⟨2, ![32, 1]⟩

abbrev nBuf : Space → Nat
  | .hbm => 5
  | .vmem => 7
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S2048x2048, .f32⟩
  | .local _ .vmem, ⟨0, _⟩ => ⟨S1x2048, .f32⟩
  | .local _ .vmem, ⟨1, _⟩ => ⟨S2048x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S2048x2048, .bf16⟩
  | _, _ => ⟨S1x2048x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 147 → Bool
  | ⟨i, _⟩ => dmaSemScopedAt i

abbrev sig : RefSig :=
  (ofTc nBuf bufTy 1 147 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 3 → Nat :=
  let c0_i32_13 : BitVec 32 := 0#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v20 : BitVec 32 := Scalar.muli v13 c512_i32
  let v23 : BitVec 32 := Scalar.addi v20 c0_i32
  let c0_i32_17 : BitVec 32 := 0#32
  ![0, v23.toNat, 0]
def k0_off2 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v20 : BitVec 32 := Scalar.muli v13 c512_i32
  let c0_i32_82 : BitVec 32 := 0#32
  ![v20.toNat, 0]
def k0_dev1 (d0 : Dev nD) : Nat :=
  let c0_i32_85 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_84 : BitVec 32 := 4#32
  let v123 : BitVec 32 := Scalar.muli v9 c4_i32_84
  let v124 : BitVec 32 := Scalar.addi c0_i32_85 v123
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_86 : BitVec 32 := 2#32
  let v125 : BitVec 32 := Scalar.muli v5 c2_i32_86
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v127 : BitVec 32 := Scalar.muli v8 c1_i32_87
  let v128 : BitVec 32 := Scalar.addi v126 v127
  v128.toNat
def k0_dev2 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v129 : BitVec 32 := Scalar.muli v2 c4_i32_89
  let v130 : BitVec 32 := Scalar.addi c0_i32_90 v129
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_91 : BitVec 32 := 2#32
  let v131 : BitVec 32 := Scalar.muli v10 c2_i32_91
  let v132 : BitVec 32 := Scalar.addi v130 v131
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v133 : BitVec 32 := Scalar.muli v8 c1_i32_92
  let v134 : BitVec 32 := Scalar.addi v132 v133
  v134.toNat
def k0_dev3 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_94 : BitVec 32 := 4#32
  let v135 : BitVec 32 := Scalar.muli v2 c4_i32_94
  let v136 : BitVec 32 := Scalar.addi c0_i32_95 v135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_96 : BitVec 32 := 2#32
  let v137 : BitVec 32 := Scalar.muli v5 c2_i32_96
  let v138 : BitVec 32 := Scalar.addi v136 v137
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_97 : BitVec 32 := 1#32
  let v139 : BitVec 32 := Scalar.muli v11 c1_i32_97
  let v140 : BitVec 32 := Scalar.addi v138 v139
  v140.toNat
def k0_dev4 (d0 : Dev nD) : Nat :=
  let c0_i32_110 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_109 : BitVec 32 := 4#32
  let v151 : BitVec 32 := Scalar.muli v9 c4_i32_109
  let v152 : BitVec 32 := Scalar.addi c0_i32_110 v151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v153 : BitVec 32 := Scalar.muli v5 c2_i32_111
  let v154 : BitVec 32 := Scalar.addi v152 v153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v155 : BitVec 32 := Scalar.muli v8 c1_i32_112
  let v156 : BitVec 32 := Scalar.addi v154 v155
  v156.toNat
def k0_dev5 (d0 : Dev nD) : Nat :=
  let c0_i32_128 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_127 : BitVec 32 := 4#32
  let v173 : BitVec 32 := Scalar.muli v9 c4_i32_127
  let v174 : BitVec 32 := Scalar.addi c0_i32_128 v173
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_129 : BitVec 32 := 2#32
  let v175 : BitVec 32 := Scalar.muli v5 c2_i32_129
  let v176 : BitVec 32 := Scalar.addi v174 v175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_130 : BitVec 32 := 1#32
  let v177 : BitVec 32 := Scalar.muli v8 c1_i32_130
  let v178 : BitVec 32 := Scalar.addi v176 v177
  v178.toNat
def k0_dev6 (d0 : Dev nD) : Nat :=
  let c0_i32_146 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_145 : BitVec 32 := 4#32
  let v195 : BitVec 32 := Scalar.muli v9 c4_i32_145
  let v196 : BitVec 32 := Scalar.addi c0_i32_146 v195
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_147 : BitVec 32 := 2#32
  let v197 : BitVec 32 := Scalar.muli v5 c2_i32_147
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_148 : BitVec 32 := 1#32
  let v199 : BitVec 32 := Scalar.muli v8 c1_i32_148
  let v200 : BitVec 32 := Scalar.addi v198 v199
  v200.toNat
def k0_dev7 (d0 : Dev nD) : Nat :=
  let c0_i32_164 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_163 : BitVec 32 := 4#32
  let v217 : BitVec 32 := Scalar.muli v9 c4_i32_163
  let v218 : BitVec 32 := Scalar.addi c0_i32_164 v217
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_165 : BitVec 32 := 2#32
  let v219 : BitVec 32 := Scalar.muli v5 c2_i32_165
  let v220 : BitVec 32 := Scalar.addi v218 v219
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_166 : BitVec 32 := 1#32
  let v221 : BitVec 32 := Scalar.muli v8 c1_i32_166
  let v222 : BitVec 32 := Scalar.addi v220 v221
  v222.toNat
def k0_dev8 (d0 : Dev nD) : Nat :=
  let c0_i32_182 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_181 : BitVec 32 := 4#32
  let v239 : BitVec 32 := Scalar.muli v9 c4_i32_181
  let v240 : BitVec 32 := Scalar.addi c0_i32_182 v239
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_183 : BitVec 32 := 2#32
  let v241 : BitVec 32 := Scalar.muli v5 c2_i32_183
  let v242 : BitVec 32 := Scalar.addi v240 v241
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_184 : BitVec 32 := 1#32
  let v243 : BitVec 32 := Scalar.muli v8 c1_i32_184
  let v244 : BitVec 32 := Scalar.addi v242 v243
  v244.toNat
def k0_dev9 (d0 : Dev nD) : Nat :=
  let c0_i32_200 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_199 : BitVec 32 := 4#32
  let v261 : BitVec 32 := Scalar.muli v9 c4_i32_199
  let v262 : BitVec 32 := Scalar.addi c0_i32_200 v261
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_201 : BitVec 32 := 2#32
  let v263 : BitVec 32 := Scalar.muli v5 c2_i32_201
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_202 : BitVec 32 := 1#32
  let v265 : BitVec 32 := Scalar.muli v8 c1_i32_202
  let v266 : BitVec 32 := Scalar.addi v264 v265
  v266.toNat
def k0_dev10 (d0 : Dev nD) : Nat :=
  let c0_i32_218 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_217 : BitVec 32 := 4#32
  let v283 : BitVec 32 := Scalar.muli v9 c4_i32_217
  let v284 : BitVec 32 := Scalar.addi c0_i32_218 v283
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_219 : BitVec 32 := 2#32
  let v285 : BitVec 32 := Scalar.muli v5 c2_i32_219
  let v286 : BitVec 32 := Scalar.addi v284 v285
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v287 : BitVec 32 := Scalar.muli v8 c1_i32_220
  let v288 : BitVec 32 := Scalar.addi v286 v287
  v288.toNat
def k0_dev11 (d0 : Dev nD) : Nat :=
  let c0_i32_236 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_235 : BitVec 32 := 4#32
  let v305 : BitVec 32 := Scalar.muli v9 c4_i32_235
  let v306 : BitVec 32 := Scalar.addi c0_i32_236 v305
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_237 : BitVec 32 := 2#32
  let v307 : BitVec 32 := Scalar.muli v5 c2_i32_237
  let v308 : BitVec 32 := Scalar.addi v306 v307
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_238 : BitVec 32 := 1#32
  let v309 : BitVec 32 := Scalar.muli v8 c1_i32_238
  let v310 : BitVec 32 := Scalar.addi v308 v309
  v310.toNat
def k0_dev12 (d0 : Dev nD) : Nat :=
  let c0_i32_254 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_253 : BitVec 32 := 4#32
  let v327 : BitVec 32 := Scalar.muli v9 c4_i32_253
  let v328 : BitVec 32 := Scalar.addi c0_i32_254 v327
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_255 : BitVec 32 := 2#32
  let v329 : BitVec 32 := Scalar.muli v5 c2_i32_255
  let v330 : BitVec 32 := Scalar.addi v328 v329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_256 : BitVec 32 := 1#32
  let v331 : BitVec 32 := Scalar.muli v8 c1_i32_256
  let v332 : BitVec 32 := Scalar.addi v330 v331
  v332.toNat
def k0_dev13 (d0 : Dev nD) : Nat :=
  let c0_i32_272 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_271 : BitVec 32 := 4#32
  let v349 : BitVec 32 := Scalar.muli v9 c4_i32_271
  let v350 : BitVec 32 := Scalar.addi c0_i32_272 v349
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_273 : BitVec 32 := 2#32
  let v351 : BitVec 32 := Scalar.muli v5 c2_i32_273
  let v352 : BitVec 32 := Scalar.addi v350 v351
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_274 : BitVec 32 := 1#32
  let v353 : BitVec 32 := Scalar.muli v8 c1_i32_274
  let v354 : BitVec 32 := Scalar.addi v352 v353
  v354.toNat
def k0_dev14 (d0 : Dev nD) : Nat :=
  let c0_i32_290 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_289 : BitVec 32 := 4#32
  let v371 : BitVec 32 := Scalar.muli v9 c4_i32_289
  let v372 : BitVec 32 := Scalar.addi c0_i32_290 v371
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_291 : BitVec 32 := 2#32
  let v373 : BitVec 32 := Scalar.muli v5 c2_i32_291
  let v374 : BitVec 32 := Scalar.addi v372 v373
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_292 : BitVec 32 := 1#32
  let v375 : BitVec 32 := Scalar.muli v8 c1_i32_292
  let v376 : BitVec 32 := Scalar.addi v374 v375
  v376.toNat
def k0_dev15 (d0 : Dev nD) : Nat :=
  let c0_i32_308 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_307 : BitVec 32 := 4#32
  let v393 : BitVec 32 := Scalar.muli v9 c4_i32_307
  let v394 : BitVec 32 := Scalar.addi c0_i32_308 v393
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_309 : BitVec 32 := 2#32
  let v395 : BitVec 32 := Scalar.muli v5 c2_i32_309
  let v396 : BitVec 32 := Scalar.addi v394 v395
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_310 : BitVec 32 := 1#32
  let v397 : BitVec 32 := Scalar.muli v8 c1_i32_310
  let v398 : BitVec 32 := Scalar.addi v396 v397
  v398.toNat
def k0_dev16 (d0 : Dev nD) : Nat :=
  let c0_i32_326 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_325 : BitVec 32 := 4#32
  let v415 : BitVec 32 := Scalar.muli v9 c4_i32_325
  let v416 : BitVec 32 := Scalar.addi c0_i32_326 v415
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_327 : BitVec 32 := 2#32
  let v417 : BitVec 32 := Scalar.muli v5 c2_i32_327
  let v418 : BitVec 32 := Scalar.addi v416 v417
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_328 : BitVec 32 := 1#32
  let v419 : BitVec 32 := Scalar.muli v8 c1_i32_328
  let v420 : BitVec 32 := Scalar.addi v418 v419
  v420.toNat
def k0_dev17 (d0 : Dev nD) : Nat :=
  let c0_i32_344 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_343 : BitVec 32 := 4#32
  let v437 : BitVec 32 := Scalar.muli v9 c4_i32_343
  let v438 : BitVec 32 := Scalar.addi c0_i32_344 v437
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_345 : BitVec 32 := 2#32
  let v439 : BitVec 32 := Scalar.muli v5 c2_i32_345
  let v440 : BitVec 32 := Scalar.addi v438 v439
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_346 : BitVec 32 := 1#32
  let v441 : BitVec 32 := Scalar.muli v8 c1_i32_346
  let v442 : BitVec 32 := Scalar.addi v440 v441
  v442.toNat
def k0_dev18 (d0 : Dev nD) : Nat :=
  let c0_i32_362 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_361 : BitVec 32 := 4#32
  let v459 : BitVec 32 := Scalar.muli v9 c4_i32_361
  let v460 : BitVec 32 := Scalar.addi c0_i32_362 v459
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_363 : BitVec 32 := 2#32
  let v461 : BitVec 32 := Scalar.muli v5 c2_i32_363
  let v462 : BitVec 32 := Scalar.addi v460 v461
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_364 : BitVec 32 := 1#32
  let v463 : BitVec 32 := Scalar.muli v8 c1_i32_364
  let v464 : BitVec 32 := Scalar.addi v462 v463
  v464.toNat
def k0_dev19 (d0 : Dev nD) : Nat :=
  let c0_i32_380 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_379 : BitVec 32 := 4#32
  let v481 : BitVec 32 := Scalar.muli v9 c4_i32_379
  let v482 : BitVec 32 := Scalar.addi c0_i32_380 v481
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_381 : BitVec 32 := 2#32
  let v483 : BitVec 32 := Scalar.muli v5 c2_i32_381
  let v484 : BitVec 32 := Scalar.addi v482 v483
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_382 : BitVec 32 := 1#32
  let v485 : BitVec 32 := Scalar.muli v8 c1_i32_382
  let v486 : BitVec 32 := Scalar.addi v484 v485
  v486.toNat
def k0_off3 (d0 : Dev nD) (c0_i32_409 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v20 : BitVec 32 := Scalar.muli v13 c512_i32
  let v526 : BitVec 32 := Scalar.addi v20 c0_i32_409
  let v528 : Index := Scalar.indexCast v526
  let c0_410 : Index := 0#32
  ![v528.toNat, 0]
def k0_off4 (d0 : Dev nD) (c0_i32_409 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v20 : BitVec 32 := Scalar.muli v13 c512_i32
  let v526 : BitVec 32 := Scalar.addi v20 c0_i32_409
  let c0_i32_417 : BitVec 32 := 0#32
  ![v526.toNat, 0]
def k0_dev20 (d0 : Dev nD) : Nat :=
  let c0_i32_414 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_413 : BitVec 32 := 4#32
  let v532 : BitVec 32 := Scalar.muli v2 c4_i32_413
  let v533 : BitVec 32 := Scalar.addi c0_i32_414 v532
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_415 : BitVec 32 := 2#32
  let v534 : BitVec 32 := Scalar.muli v10 c2_i32_415
  let v535 : BitVec 32 := Scalar.addi v533 v534
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_416 : BitVec 32 := 1#32
  let v536 : BitVec 32 := Scalar.muli v8 c1_i32_416
  let v537 : BitVec 32 := Scalar.addi v535 v536
  v537.toNat
def k0_dev21 (d0 : Dev nD) : Nat :=
  let c0_i32_422 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_421 : BitVec 32 := 4#32
  let v544 : BitVec 32 := Scalar.muli v2 c4_i32_421
  let v545 : BitVec 32 := Scalar.addi c0_i32_422 v544
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_423 : BitVec 32 := 2#32
  let v546 : BitVec 32 := Scalar.muli v5 c2_i32_423
  let v547 : BitVec 32 := Scalar.addi v545 v546
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_424 : BitVec 32 := 1#32
  let v548 : BitVec 32 := Scalar.muli v11 c1_i32_424
  let v549 : BitVec 32 := Scalar.addi v547 v548
  v549.toNat
def k0_dev22 (d0 : Dev nD) : Nat :=
  let c0_i32_452 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_451 : BitVec 32 := 4#32
  let v592 : BitVec 32 := Scalar.muli v2 c4_i32_451
  let v593 : BitVec 32 := Scalar.addi c0_i32_452 v592
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_453 : BitVec 32 := 2#32
  let v594 : BitVec 32 := Scalar.muli v10 c2_i32_453
  let v595 : BitVec 32 := Scalar.addi v593 v594
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_454 : BitVec 32 := 1#32
  let v596 : BitVec 32 := Scalar.muli v8 c1_i32_454
  let v597 : BitVec 32 := Scalar.addi v595 v596
  v597.toNat
def k0_dev23 (d0 : Dev nD) : Nat :=
  let c0_i32_460 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_459 : BitVec 32 := 4#32
  let v604 : BitVec 32 := Scalar.muli v2 c4_i32_459
  let v605 : BitVec 32 := Scalar.addi c0_i32_460 v604
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_461 : BitVec 32 := 2#32
  let v606 : BitVec 32 := Scalar.muli v5 c2_i32_461
  let v607 : BitVec 32 := Scalar.addi v605 v606
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_462 : BitVec 32 := 1#32
  let v608 : BitVec 32 := Scalar.muli v11 c1_i32_462
  let v609 : BitVec 32 := Scalar.addi v607 v608
  v609.toNat
def k0_dev24 (d0 : Dev nD) : Nat :=
  let c0_i32_490 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_489 : BitVec 32 := 4#32
  let v652 : BitVec 32 := Scalar.muli v2 c4_i32_489
  let v653 : BitVec 32 := Scalar.addi c0_i32_490 v652
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_491 : BitVec 32 := 2#32
  let v654 : BitVec 32 := Scalar.muli v10 c2_i32_491
  let v655 : BitVec 32 := Scalar.addi v653 v654
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_492 : BitVec 32 := 1#32
  let v656 : BitVec 32 := Scalar.muli v8 c1_i32_492
  let v657 : BitVec 32 := Scalar.addi v655 v656
  v657.toNat
def k0_dev25 (d0 : Dev nD) : Nat :=
  let c0_i32_498 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_497 : BitVec 32 := 4#32
  let v664 : BitVec 32 := Scalar.muli v2 c4_i32_497
  let v665 : BitVec 32 := Scalar.addi c0_i32_498 v664
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_499 : BitVec 32 := 2#32
  let v666 : BitVec 32 := Scalar.muli v5 c2_i32_499
  let v667 : BitVec 32 := Scalar.addi v665 v666
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_500 : BitVec 32 := 1#32
  let v668 : BitVec 32 := Scalar.muli v11 c1_i32_500
  let v669 : BitVec 32 := Scalar.addi v667 v668
  v669.toNat
def k0_dev26 (d0 : Dev nD) : Nat :=
  let c0_i32_528 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_527 : BitVec 32 := 4#32
  let v712 : BitVec 32 := Scalar.muli v2 c4_i32_527
  let v713 : BitVec 32 := Scalar.addi c0_i32_528 v712
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_529 : BitVec 32 := 2#32
  let v714 : BitVec 32 := Scalar.muli v10 c2_i32_529
  let v715 : BitVec 32 := Scalar.addi v713 v714
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_530 : BitVec 32 := 1#32
  let v716 : BitVec 32 := Scalar.muli v8 c1_i32_530
  let v717 : BitVec 32 := Scalar.addi v715 v716
  v717.toNat
def k0_dev27 (d0 : Dev nD) : Nat :=
  let c0_i32_536 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_535 : BitVec 32 := 4#32
  let v724 : BitVec 32 := Scalar.muli v2 c4_i32_535
  let v725 : BitVec 32 := Scalar.addi c0_i32_536 v724
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_537 : BitVec 32 := 2#32
  let v726 : BitVec 32 := Scalar.muli v5 c2_i32_537
  let v727 : BitVec 32 := Scalar.addi v725 v726
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_538 : BitVec 32 := 1#32
  let v728 : BitVec 32 := Scalar.muli v11 c1_i32_538
  let v729 : BitVec 32 := Scalar.addi v727 v728
  v729.toNat
def k0_dev28 (d0 : Dev nD) : Nat :=
  let c0_i32_566 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_565 : BitVec 32 := 4#32
  let v772 : BitVec 32 := Scalar.muli v2 c4_i32_565
  let v773 : BitVec 32 := Scalar.addi c0_i32_566 v772
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_567 : BitVec 32 := 2#32
  let v774 : BitVec 32 := Scalar.muli v10 c2_i32_567
  let v775 : BitVec 32 := Scalar.addi v773 v774
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_568 : BitVec 32 := 1#32
  let v776 : BitVec 32 := Scalar.muli v8 c1_i32_568
  let v777 : BitVec 32 := Scalar.addi v775 v776
  v777.toNat
def k0_dev29 (d0 : Dev nD) : Nat :=
  let c0_i32_574 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_573 : BitVec 32 := 4#32
  let v784 : BitVec 32 := Scalar.muli v2 c4_i32_573
  let v785 : BitVec 32 := Scalar.addi c0_i32_574 v784
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_575 : BitVec 32 := 2#32
  let v786 : BitVec 32 := Scalar.muli v5 c2_i32_575
  let v787 : BitVec 32 := Scalar.addi v785 v786
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_576 : BitVec 32 := 1#32
  let v788 : BitVec 32 := Scalar.muli v11 c1_i32_576
  let v789 : BitVec 32 := Scalar.addi v787 v788
  v789.toNat
def k0_dev30 (d0 : Dev nD) : Nat :=
  let c0_i32_604 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_603 : BitVec 32 := 4#32
  let v832 : BitVec 32 := Scalar.muli v2 c4_i32_603
  let v833 : BitVec 32 := Scalar.addi c0_i32_604 v832
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_605 : BitVec 32 := 2#32
  let v834 : BitVec 32 := Scalar.muli v10 c2_i32_605
  let v835 : BitVec 32 := Scalar.addi v833 v834
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_606 : BitVec 32 := 1#32
  let v836 : BitVec 32 := Scalar.muli v8 c1_i32_606
  let v837 : BitVec 32 := Scalar.addi v835 v836
  v837.toNat
def k0_dev31 (d0 : Dev nD) : Nat :=
  let c0_i32_612 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_611 : BitVec 32 := 4#32
  let v844 : BitVec 32 := Scalar.muli v2 c4_i32_611
  let v845 : BitVec 32 := Scalar.addi c0_i32_612 v844
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_613 : BitVec 32 := 2#32
  let v846 : BitVec 32 := Scalar.muli v5 c2_i32_613
  let v847 : BitVec 32 := Scalar.addi v845 v846
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_614 : BitVec 32 := 1#32
  let v848 : BitVec 32 := Scalar.muli v11 c1_i32_614
  let v849 : BitVec 32 := Scalar.addi v847 v848
  v849.toNat
def k0_dev32 (d0 : Dev nD) : Nat :=
  let c0_i32_642 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_641 : BitVec 32 := 4#32
  let v892 : BitVec 32 := Scalar.muli v2 c4_i32_641
  let v893 : BitVec 32 := Scalar.addi c0_i32_642 v892
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_643 : BitVec 32 := 2#32
  let v894 : BitVec 32 := Scalar.muli v10 c2_i32_643
  let v895 : BitVec 32 := Scalar.addi v893 v894
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_644 : BitVec 32 := 1#32
  let v896 : BitVec 32 := Scalar.muli v8 c1_i32_644
  let v897 : BitVec 32 := Scalar.addi v895 v896
  v897.toNat
def k0_dev33 (d0 : Dev nD) : Nat :=
  let c0_i32_650 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_649 : BitVec 32 := 4#32
  let v904 : BitVec 32 := Scalar.muli v2 c4_i32_649
  let v905 : BitVec 32 := Scalar.addi c0_i32_650 v904
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_651 : BitVec 32 := 2#32
  let v906 : BitVec 32 := Scalar.muli v5 c2_i32_651
  let v907 : BitVec 32 := Scalar.addi v905 v906
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_652 : BitVec 32 := 1#32
  let v908 : BitVec 32 := Scalar.muli v11 c1_i32_652
  let v909 : BitVec 32 := Scalar.addi v907 v908
  v909.toNat
def k0_dev34 (d0 : Dev nD) : Nat :=
  let c0_i32_680 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_679 : BitVec 32 := 4#32
  let v952 : BitVec 32 := Scalar.muli v2 c4_i32_679
  let v953 : BitVec 32 := Scalar.addi c0_i32_680 v952
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_681 : BitVec 32 := 2#32
  let v954 : BitVec 32 := Scalar.muli v10 c2_i32_681
  let v955 : BitVec 32 := Scalar.addi v953 v954
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_682 : BitVec 32 := 1#32
  let v956 : BitVec 32 := Scalar.muli v8 c1_i32_682
  let v957 : BitVec 32 := Scalar.addi v955 v956
  v957.toNat
def k0_dev35 (d0 : Dev nD) : Nat :=
  let c0_i32_688 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_687 : BitVec 32 := 4#32
  let v964 : BitVec 32 := Scalar.muli v2 c4_i32_687
  let v965 : BitVec 32 := Scalar.addi c0_i32_688 v964
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_689 : BitVec 32 := 2#32
  let v966 : BitVec 32 := Scalar.muli v5 c2_i32_689
  let v967 : BitVec 32 := Scalar.addi v965 v966
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_690 : BitVec 32 := 1#32
  let v968 : BitVec 32 := Scalar.muli v11 c1_i32_690
  let v969 : BitVec 32 := Scalar.addi v967 v968
  v969.toNat
def k0_dev36 (d0 : Dev nD) : Nat :=
  let c0_i32_718 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_717 : BitVec 32 := 4#32
  let v1012 : BitVec 32 := Scalar.muli v2 c4_i32_717
  let v1013 : BitVec 32 := Scalar.addi c0_i32_718 v1012
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_719 : BitVec 32 := 2#32
  let v1014 : BitVec 32 := Scalar.muli v10 c2_i32_719
  let v1015 : BitVec 32 := Scalar.addi v1013 v1014
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_720 : BitVec 32 := 1#32
  let v1016 : BitVec 32 := Scalar.muli v8 c1_i32_720
  let v1017 : BitVec 32 := Scalar.addi v1015 v1016
  v1017.toNat
def k0_dev37 (d0 : Dev nD) : Nat :=
  let c0_i32_726 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_725 : BitVec 32 := 4#32
  let v1024 : BitVec 32 := Scalar.muli v2 c4_i32_725
  let v1025 : BitVec 32 := Scalar.addi c0_i32_726 v1024
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_727 : BitVec 32 := 2#32
  let v1026 : BitVec 32 := Scalar.muli v5 c2_i32_727
  let v1027 : BitVec 32 := Scalar.addi v1025 v1026
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_728 : BitVec 32 := 1#32
  let v1028 : BitVec 32 := Scalar.muli v11 c1_i32_728
  let v1029 : BitVec 32 := Scalar.addi v1027 v1028
  v1029.toNat
def k0_dev38 (d0 : Dev nD) : Nat :=
  let c0_i32_756 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_755 : BitVec 32 := 4#32
  let v1072 : BitVec 32 := Scalar.muli v2 c4_i32_755
  let v1073 : BitVec 32 := Scalar.addi c0_i32_756 v1072
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_757 : BitVec 32 := 2#32
  let v1074 : BitVec 32 := Scalar.muli v10 c2_i32_757
  let v1075 : BitVec 32 := Scalar.addi v1073 v1074
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_758 : BitVec 32 := 1#32
  let v1076 : BitVec 32 := Scalar.muli v8 c1_i32_758
  let v1077 : BitVec 32 := Scalar.addi v1075 v1076
  v1077.toNat
def k0_dev39 (d0 : Dev nD) : Nat :=
  let c0_i32_764 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_763 : BitVec 32 := 4#32
  let v1084 : BitVec 32 := Scalar.muli v2 c4_i32_763
  let v1085 : BitVec 32 := Scalar.addi c0_i32_764 v1084
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_765 : BitVec 32 := 2#32
  let v1086 : BitVec 32 := Scalar.muli v5 c2_i32_765
  let v1087 : BitVec 32 := Scalar.addi v1085 v1086
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_766 : BitVec 32 := 1#32
  let v1088 : BitVec 32 := Scalar.muli v11 c1_i32_766
  let v1089 : BitVec 32 := Scalar.addi v1087 v1088
  v1089.toNat
def k0_dev40 (d0 : Dev nD) : Nat :=
  let c0_i32_794 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_793 : BitVec 32 := 4#32
  let v1132 : BitVec 32 := Scalar.muli v2 c4_i32_793
  let v1133 : BitVec 32 := Scalar.addi c0_i32_794 v1132
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_795 : BitVec 32 := 2#32
  let v1134 : BitVec 32 := Scalar.muli v10 c2_i32_795
  let v1135 : BitVec 32 := Scalar.addi v1133 v1134
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_796 : BitVec 32 := 1#32
  let v1136 : BitVec 32 := Scalar.muli v8 c1_i32_796
  let v1137 : BitVec 32 := Scalar.addi v1135 v1136
  v1137.toNat
def k0_dev41 (d0 : Dev nD) : Nat :=
  let c0_i32_802 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_801 : BitVec 32 := 4#32
  let v1144 : BitVec 32 := Scalar.muli v2 c4_i32_801
  let v1145 : BitVec 32 := Scalar.addi c0_i32_802 v1144
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_803 : BitVec 32 := 2#32
  let v1146 : BitVec 32 := Scalar.muli v5 c2_i32_803
  let v1147 : BitVec 32 := Scalar.addi v1145 v1146
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_804 : BitVec 32 := 1#32
  let v1148 : BitVec 32 := Scalar.muli v11 c1_i32_804
  let v1149 : BitVec 32 := Scalar.addi v1147 v1148
  v1149.toNat
def k0_dev42 (d0 : Dev nD) : Nat :=
  let c0_i32_832 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_831 : BitVec 32 := 4#32
  let v1192 : BitVec 32 := Scalar.muli v2 c4_i32_831
  let v1193 : BitVec 32 := Scalar.addi c0_i32_832 v1192
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_833 : BitVec 32 := 2#32
  let v1194 : BitVec 32 := Scalar.muli v10 c2_i32_833
  let v1195 : BitVec 32 := Scalar.addi v1193 v1194
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_834 : BitVec 32 := 1#32
  let v1196 : BitVec 32 := Scalar.muli v8 c1_i32_834
  let v1197 : BitVec 32 := Scalar.addi v1195 v1196
  v1197.toNat
def k0_dev43 (d0 : Dev nD) : Nat :=
  let c0_i32_840 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_839 : BitVec 32 := 4#32
  let v1204 : BitVec 32 := Scalar.muli v2 c4_i32_839
  let v1205 : BitVec 32 := Scalar.addi c0_i32_840 v1204
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_841 : BitVec 32 := 2#32
  let v1206 : BitVec 32 := Scalar.muli v5 c2_i32_841
  let v1207 : BitVec 32 := Scalar.addi v1205 v1206
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_842 : BitVec 32 := 1#32
  let v1208 : BitVec 32 := Scalar.muli v11 c1_i32_842
  let v1209 : BitVec 32 := Scalar.addi v1207 v1208
  v1209.toNat
def k0_dev44 (d0 : Dev nD) : Nat :=
  let c0_i32_870 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_869 : BitVec 32 := 4#32
  let v1252 : BitVec 32 := Scalar.muli v2 c4_i32_869
  let v1253 : BitVec 32 := Scalar.addi c0_i32_870 v1252
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_871 : BitVec 32 := 2#32
  let v1254 : BitVec 32 := Scalar.muli v10 c2_i32_871
  let v1255 : BitVec 32 := Scalar.addi v1253 v1254
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_872 : BitVec 32 := 1#32
  let v1256 : BitVec 32 := Scalar.muli v8 c1_i32_872
  let v1257 : BitVec 32 := Scalar.addi v1255 v1256
  v1257.toNat
def k0_dev45 (d0 : Dev nD) : Nat :=
  let c0_i32_878 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_877 : BitVec 32 := 4#32
  let v1264 : BitVec 32 := Scalar.muli v2 c4_i32_877
  let v1265 : BitVec 32 := Scalar.addi c0_i32_878 v1264
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_879 : BitVec 32 := 2#32
  let v1266 : BitVec 32 := Scalar.muli v5 c2_i32_879
  let v1267 : BitVec 32 := Scalar.addi v1265 v1266
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_880 : BitVec 32 := 1#32
  let v1268 : BitVec 32 := Scalar.muli v11 c1_i32_880
  let v1269 : BitVec 32 := Scalar.addi v1267 v1268
  v1269.toNat
def k0_dev46 (d0 : Dev nD) : Nat :=
  let c0_i32_908 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_907 : BitVec 32 := 4#32
  let v1312 : BitVec 32 := Scalar.muli v2 c4_i32_907
  let v1313 : BitVec 32 := Scalar.addi c0_i32_908 v1312
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_909 : BitVec 32 := 2#32
  let v1314 : BitVec 32 := Scalar.muli v10 c2_i32_909
  let v1315 : BitVec 32 := Scalar.addi v1313 v1314
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_910 : BitVec 32 := 1#32
  let v1316 : BitVec 32 := Scalar.muli v8 c1_i32_910
  let v1317 : BitVec 32 := Scalar.addi v1315 v1316
  v1317.toNat
def k0_dev47 (d0 : Dev nD) : Nat :=
  let c0_i32_916 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_915 : BitVec 32 := 4#32
  let v1324 : BitVec 32 := Scalar.muli v2 c4_i32_915
  let v1325 : BitVec 32 := Scalar.addi c0_i32_916 v1324
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_917 : BitVec 32 := 2#32
  let v1326 : BitVec 32 := Scalar.muli v5 c2_i32_917
  let v1327 : BitVec 32 := Scalar.addi v1325 v1326
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_918 : BitVec 32 := 1#32
  let v1328 : BitVec 32 := Scalar.muli v11 c1_i32_918
  let v1329 : BitVec 32 := Scalar.addi v1327 v1328
  v1329.toNat
def k0_dev48 (d0 : Dev nD) : Nat :=
  let c0_i32_946 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_945 : BitVec 32 := 4#32
  let v1372 : BitVec 32 := Scalar.muli v2 c4_i32_945
  let v1373 : BitVec 32 := Scalar.addi c0_i32_946 v1372
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_947 : BitVec 32 := 2#32
  let v1374 : BitVec 32 := Scalar.muli v10 c2_i32_947
  let v1375 : BitVec 32 := Scalar.addi v1373 v1374
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_948 : BitVec 32 := 1#32
  let v1376 : BitVec 32 := Scalar.muli v8 c1_i32_948
  let v1377 : BitVec 32 := Scalar.addi v1375 v1376
  v1377.toNat
def k0_dev49 (d0 : Dev nD) : Nat :=
  let c0_i32_954 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_953 : BitVec 32 := 4#32
  let v1384 : BitVec 32 := Scalar.muli v2 c4_i32_953
  let v1385 : BitVec 32 := Scalar.addi c0_i32_954 v1384
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_955 : BitVec 32 := 2#32
  let v1386 : BitVec 32 := Scalar.muli v5 c2_i32_955
  let v1387 : BitVec 32 := Scalar.addi v1385 v1386
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_956 : BitVec 32 := 1#32
  let v1388 : BitVec 32 := Scalar.muli v11 c1_i32_956
  let v1389 : BitVec 32 := Scalar.addi v1387 v1388
  v1389.toNat
def k0_dev50 (d0 : Dev nD) : Nat :=
  let c0_i32_984 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_983 : BitVec 32 := 4#32
  let v1432 : BitVec 32 := Scalar.muli v2 c4_i32_983
  let v1433 : BitVec 32 := Scalar.addi c0_i32_984 v1432
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_985 : BitVec 32 := 2#32
  let v1434 : BitVec 32 := Scalar.muli v10 c2_i32_985
  let v1435 : BitVec 32 := Scalar.addi v1433 v1434
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_986 : BitVec 32 := 1#32
  let v1436 : BitVec 32 := Scalar.muli v8 c1_i32_986
  let v1437 : BitVec 32 := Scalar.addi v1435 v1436
  v1437.toNat
def k0_dev51 (d0 : Dev nD) : Nat :=
  let c0_i32_992 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_991 : BitVec 32 := 4#32
  let v1444 : BitVec 32 := Scalar.muli v2 c4_i32_991
  let v1445 : BitVec 32 := Scalar.addi c0_i32_992 v1444
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_993 : BitVec 32 := 2#32
  let v1446 : BitVec 32 := Scalar.muli v5 c2_i32_993
  let v1447 : BitVec 32 := Scalar.addi v1445 v1446
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_994 : BitVec 32 := 1#32
  let v1448 : BitVec 32 := Scalar.muli v11 c1_i32_994
  let v1449 : BitVec 32 := Scalar.addi v1447 v1448
  v1449.toNat
def k0_off5 (d0 : Dev nD) (c0_i32_1007 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c512_i32_12 : BitVec 32 := 512#32
  let v22 : BitVec 32 := Scalar.muli v19 c512_i32_12
  let v1469 : BitVec 32 := Scalar.addi v22 c0_i32_1007
  let c0_i32_1014 : BitVec 32 := 0#32
  ![v1469.toNat, 0]
def k0_dev52 (d0 : Dev nD) : Nat :=
  let c0_i32_1011 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1010 : BitVec 32 := 4#32
  let v1470 : BitVec 32 := Scalar.muli v2 c4_i32_1010
  let v1471 : BitVec 32 := Scalar.addi c0_i32_1011 v1470
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1012 : BitVec 32 := 2#32
  let v1472 : BitVec 32 := Scalar.muli v10 c2_i32_1012
  let v1473 : BitVec 32 := Scalar.addi v1471 v1472
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1013 : BitVec 32 := 1#32
  let v1474 : BitVec 32 := Scalar.muli v8 c1_i32_1013
  let v1475 : BitVec 32 := Scalar.addi v1473 v1474
  v1475.toNat
def k0_off6 (d0 : Dev nD) (c0_i32_1016 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c512_i32_12 : BitVec 32 := 512#32
  let v22 : BitVec 32 := Scalar.muli v19 c512_i32_12
  let v1482 : BitVec 32 := Scalar.addi v22 c0_i32_1016
  let v1483 : Index := Scalar.indexCast v1482
  let c0_1017 : Index := 0#32
  ![v1483.toNat, 0]
def k0_dev53 (d0 : Dev nD) : Nat :=
  let c0_i32_1032 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1031 : BitVec 32 := 4#32
  let v1500 : BitVec 32 := Scalar.muli v2 c4_i32_1031
  let v1501 : BitVec 32 := Scalar.addi c0_i32_1032 v1500
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1033 : BitVec 32 := 2#32
  let v1502 : BitVec 32 := Scalar.muli v10 c2_i32_1033
  let v1503 : BitVec 32 := Scalar.addi v1501 v1502
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1034 : BitVec 32 := 1#32
  let v1504 : BitVec 32 := Scalar.muli v8 c1_i32_1034
  let v1505 : BitVec 32 := Scalar.addi v1503 v1504
  v1505.toNat
def k0_dev54 (d0 : Dev nD) : Nat :=
  let c0_i32_1053 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1052 : BitVec 32 := 4#32
  let v1530 : BitVec 32 := Scalar.muli v2 c4_i32_1052
  let v1531 : BitVec 32 := Scalar.addi c0_i32_1053 v1530
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1054 : BitVec 32 := 2#32
  let v1532 : BitVec 32 := Scalar.muli v10 c2_i32_1054
  let v1533 : BitVec 32 := Scalar.addi v1531 v1532
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1055 : BitVec 32 := 1#32
  let v1534 : BitVec 32 := Scalar.muli v8 c1_i32_1055
  let v1535 : BitVec 32 := Scalar.addi v1533 v1534
  v1535.toNat
def k0_dev55 (d0 : Dev nD) : Nat :=
  let c0_i32_1074 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1073 : BitVec 32 := 4#32
  let v1560 : BitVec 32 := Scalar.muli v2 c4_i32_1073
  let v1561 : BitVec 32 := Scalar.addi c0_i32_1074 v1560
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1075 : BitVec 32 := 2#32
  let v1562 : BitVec 32 := Scalar.muli v10 c2_i32_1075
  let v1563 : BitVec 32 := Scalar.addi v1561 v1562
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1076 : BitVec 32 := 1#32
  let v1564 : BitVec 32 := Scalar.muli v8 c1_i32_1076
  let v1565 : BitVec 32 := Scalar.addi v1563 v1564
  v1565.toNat
def k0_dev56 (d0 : Dev nD) : Nat :=
  let c0_i32_1095 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1094 : BitVec 32 := 4#32
  let v1590 : BitVec 32 := Scalar.muli v2 c4_i32_1094
  let v1591 : BitVec 32 := Scalar.addi c0_i32_1095 v1590
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1096 : BitVec 32 := 2#32
  let v1592 : BitVec 32 := Scalar.muli v10 c2_i32_1096
  let v1593 : BitVec 32 := Scalar.addi v1591 v1592
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1097 : BitVec 32 := 1#32
  let v1594 : BitVec 32 := Scalar.muli v8 c1_i32_1097
  let v1595 : BitVec 32 := Scalar.addi v1593 v1594
  v1595.toNat
def k0_dev57 (d0 : Dev nD) : Nat :=
  let c0_i32_1116 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1115 : BitVec 32 := 4#32
  let v1620 : BitVec 32 := Scalar.muli v2 c4_i32_1115
  let v1621 : BitVec 32 := Scalar.addi c0_i32_1116 v1620
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1117 : BitVec 32 := 2#32
  let v1622 : BitVec 32 := Scalar.muli v10 c2_i32_1117
  let v1623 : BitVec 32 := Scalar.addi v1621 v1622
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1118 : BitVec 32 := 1#32
  let v1624 : BitVec 32 := Scalar.muli v8 c1_i32_1118
  let v1625 : BitVec 32 := Scalar.addi v1623 v1624
  v1625.toNat
def k0_dev58 (d0 : Dev nD) : Nat :=
  let c0_i32_1137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1136 : BitVec 32 := 4#32
  let v1650 : BitVec 32 := Scalar.muli v2 c4_i32_1136
  let v1651 : BitVec 32 := Scalar.addi c0_i32_1137 v1650
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1138 : BitVec 32 := 2#32
  let v1652 : BitVec 32 := Scalar.muli v10 c2_i32_1138
  let v1653 : BitVec 32 := Scalar.addi v1651 v1652
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1139 : BitVec 32 := 1#32
  let v1654 : BitVec 32 := Scalar.muli v8 c1_i32_1139
  let v1655 : BitVec 32 := Scalar.addi v1653 v1654
  v1655.toNat
def k0_dev59 (d0 : Dev nD) : Nat :=
  let c0_i32_1158 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1157 : BitVec 32 := 4#32
  let v1680 : BitVec 32 := Scalar.muli v2 c4_i32_1157
  let v1681 : BitVec 32 := Scalar.addi c0_i32_1158 v1680
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1159 : BitVec 32 := 2#32
  let v1682 : BitVec 32 := Scalar.muli v10 c2_i32_1159
  let v1683 : BitVec 32 := Scalar.addi v1681 v1682
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1160 : BitVec 32 := 1#32
  let v1684 : BitVec 32 := Scalar.muli v8 c1_i32_1160
  let v1685 : BitVec 32 := Scalar.addi v1683 v1684
  v1685.toNat
def k0_off7 (d0 : Dev nD) (c256_i32_1175 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c512_i32_11 : BitVec 32 := 512#32
  let v21 : BitVec 32 := Scalar.muli v16 c512_i32_11
  let v1709 : BitVec 32 := Scalar.addi v21 c256_i32_1175
  let c0_i32_1182 : BitVec 32 := 0#32
  ![v1709.toNat, 0]
def k0_dev60 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1710 : BitVec 32 := Scalar.muli v2 c4_i32_1178
  let v1711 : BitVec 32 := Scalar.addi c0_i32_1179 v1710
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1180 : BitVec 32 := 2#32
  let v1712 : BitVec 32 := Scalar.muli v5 c2_i32_1180
  let v1713 : BitVec 32 := Scalar.addi v1711 v1712
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1181 : BitVec 32 := 1#32
  let v1714 : BitVec 32 := Scalar.muli v11 c1_i32_1181
  let v1715 : BitVec 32 := Scalar.addi v1713 v1714
  v1715.toNat
def k0_off8 (d0 : Dev nD) (c256_i32_1184 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c512_i32_11 : BitVec 32 := 512#32
  let v21 : BitVec 32 := Scalar.muli v16 c512_i32_11
  let v1722 : BitVec 32 := Scalar.addi v21 c256_i32_1184
  let v1723 : Index := Scalar.indexCast v1722
  let c0_1185 : Index := 0#32
  ![v1723.toNat, 0]
def k0_dev61 (d0 : Dev nD) : Nat :=
  let c0_i32_1200 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1199 : BitVec 32 := 4#32
  let v1740 : BitVec 32 := Scalar.muli v2 c4_i32_1199
  let v1741 : BitVec 32 := Scalar.addi c0_i32_1200 v1740
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1201 : BitVec 32 := 2#32
  let v1742 : BitVec 32 := Scalar.muli v5 c2_i32_1201
  let v1743 : BitVec 32 := Scalar.addi v1741 v1742
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1202 : BitVec 32 := 1#32
  let v1744 : BitVec 32 := Scalar.muli v11 c1_i32_1202
  let v1745 : BitVec 32 := Scalar.addi v1743 v1744
  v1745.toNat
def k0_dev62 (d0 : Dev nD) : Nat :=
  let c0_i32_1221 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1220 : BitVec 32 := 4#32
  let v1770 : BitVec 32 := Scalar.muli v2 c4_i32_1220
  let v1771 : BitVec 32 := Scalar.addi c0_i32_1221 v1770
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1222 : BitVec 32 := 2#32
  let v1772 : BitVec 32 := Scalar.muli v5 c2_i32_1222
  let v1773 : BitVec 32 := Scalar.addi v1771 v1772
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1223 : BitVec 32 := 1#32
  let v1774 : BitVec 32 := Scalar.muli v11 c1_i32_1223
  let v1775 : BitVec 32 := Scalar.addi v1773 v1774
  v1775.toNat
def k0_dev63 (d0 : Dev nD) : Nat :=
  let c0_i32_1242 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1241 : BitVec 32 := 4#32
  let v1800 : BitVec 32 := Scalar.muli v2 c4_i32_1241
  let v1801 : BitVec 32 := Scalar.addi c0_i32_1242 v1800
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1243 : BitVec 32 := 2#32
  let v1802 : BitVec 32 := Scalar.muli v5 c2_i32_1243
  let v1803 : BitVec 32 := Scalar.addi v1801 v1802
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1244 : BitVec 32 := 1#32
  let v1804 : BitVec 32 := Scalar.muli v11 c1_i32_1244
  let v1805 : BitVec 32 := Scalar.addi v1803 v1804
  v1805.toNat
def k0_dev64 (d0 : Dev nD) : Nat :=
  let c0_i32_1263 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1262 : BitVec 32 := 4#32
  let v1830 : BitVec 32 := Scalar.muli v2 c4_i32_1262
  let v1831 : BitVec 32 := Scalar.addi c0_i32_1263 v1830
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1264 : BitVec 32 := 2#32
  let v1832 : BitVec 32 := Scalar.muli v5 c2_i32_1264
  let v1833 : BitVec 32 := Scalar.addi v1831 v1832
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1265 : BitVec 32 := 1#32
  let v1834 : BitVec 32 := Scalar.muli v11 c1_i32_1265
  let v1835 : BitVec 32 := Scalar.addi v1833 v1834
  v1835.toNat
def k0_dev65 (d0 : Dev nD) : Nat :=
  let c0_i32_1284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1283 : BitVec 32 := 4#32
  let v1860 : BitVec 32 := Scalar.muli v2 c4_i32_1283
  let v1861 : BitVec 32 := Scalar.addi c0_i32_1284 v1860
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1285 : BitVec 32 := 2#32
  let v1862 : BitVec 32 := Scalar.muli v5 c2_i32_1285
  let v1863 : BitVec 32 := Scalar.addi v1861 v1862
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1286 : BitVec 32 := 1#32
  let v1864 : BitVec 32 := Scalar.muli v11 c1_i32_1286
  let v1865 : BitVec 32 := Scalar.addi v1863 v1864
  v1865.toNat
def k0_dev66 (d0 : Dev nD) : Nat :=
  let c0_i32_1305 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1304 : BitVec 32 := 4#32
  let v1890 : BitVec 32 := Scalar.muli v2 c4_i32_1304
  let v1891 : BitVec 32 := Scalar.addi c0_i32_1305 v1890
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1306 : BitVec 32 := 2#32
  let v1892 : BitVec 32 := Scalar.muli v5 c2_i32_1306
  let v1893 : BitVec 32 := Scalar.addi v1891 v1892
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1307 : BitVec 32 := 1#32
  let v1894 : BitVec 32 := Scalar.muli v11 c1_i32_1307
  let v1895 : BitVec 32 := Scalar.addi v1893 v1894
  v1895.toNat
def k0_dev67 (d0 : Dev nD) : Nat :=
  let c0_i32_1326 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1325 : BitVec 32 := 4#32
  let v1920 : BitVec 32 := Scalar.muli v2 c4_i32_1325
  let v1921 : BitVec 32 := Scalar.addi c0_i32_1326 v1920
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1327 : BitVec 32 := 2#32
  let v1922 : BitVec 32 := Scalar.muli v5 c2_i32_1327
  let v1923 : BitVec 32 := Scalar.addi v1921 v1922
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1328 : BitVec 32 := 1#32
  let v1924 : BitVec 32 := Scalar.muli v11 c1_i32_1328
  let v1925 : BitVec 32 := Scalar.addi v1923 v1924
  v1925.toNat
def k0_off9 (d0 : Dev nD) (c0_i32_1522 : BitVec 32) : Fin 2 → Nat :=
  let c2_i32_1511 : BitVec 32 := 2#32
  let c1_i32_1510 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2194 : BitVec 32 := Scalar.subi c1_i32_1510 v5
  let v2195 : BitVec 32 := Scalar.muli c2_i32_1511 v2194
  let c1_i32_1512 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2196 : BitVec 32 := Scalar.subi c1_i32_1512 v8
  let v2197 : BitVec 32 := Scalar.addi v2195 v2196
  let c512_i32_1513 : BitVec 32 := 512#32
  let v2198 : BitVec 32 := Scalar.muli v2197 c512_i32_1513
  let v2209 : BitVec 32 := Scalar.addi v2198 c0_i32_1522
  let v2210 : Index := Scalar.indexCast v2209
  let c0_1523 : Index := 0#32
  ![v2210.toNat, 0]
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2048x2048 : Shape := ⟨3, ![2, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Program.lean ====
module

public import proofs.«01_k».proof.Proof.Gen.KernelIdeal.Skeleton
public import proofs.«01_k».proof.Proof.Gen.KernelIdeal.Launch
public import proofs.«01_k».proof.Proof.Gen.KernelIdeal.Points

/-! The kernel's body written as loops: each phase's step once, for a chunk `j`, over the offsets
and the peers it addresses. `body_eq` says the printed body is this program. -/

@[expose] public section

noncomputable section

namespace Cert.KernelIdeal.Run

open Idealize.ShloMosaic Idealize.ShloMosaic.TcCoe Idealize.SL.Sem
open Cert.KernelIdeal.Gen

variable {F : FTy → Type} [FloatOps F]

/-- A program of the kernel's effects without a result. -/
abbrev P (F : FTy → Type) := Prog (TpuEff nD τ sig (Elt F) Λ₀ .tc) PUnit

/-- The steps of a list, one after the other, then the rest. -/
def loop {ι : Type} (f : ι → P F → P F) : List ι → P F → P F
  | [], k => k
  | i :: l, k => f i (loop f l k)

/-! ## Chunks of 32 rows -/

/-- A chunk of 32 rows lies in a block of 512. -/
theorem inbQ : ∀ j : Fin 16, ∀ a, (![32 * j.val, 0] : Fin 2 → ℕ) a + S32x2048.size a ≤ S512x2048.size a := by
  decide +kernel

/-- Chunk `j` of a block of 512 rows. -/
abbrev rQ (j : Fin 16) : Rect S512x2048 := Rect.unit (s := S512x2048) ![32 * j.val, 0] S32x2048.size (inbQ j)

/-- A chunk is whole words. -/
theorem rQ_words : ∀ j : Fin 16, (rQ j).WholeWords (EltTy.packing .bf16) := by decide +kernel
/-- Its rows are packed in pairs. -/
theorem rQ_packed : ∀ j : Fin 16, (rQ j).PackedRows (EltTy.packing .bf16) := by decide +kernel

/-- The origin of a chunk of 32 rows of a 2048-row array, where it lies in the array and is whole words. -/
def Off : Type :=
  {o : Fin 2 → ℕ // ∃ h : ∀ a, o a + S32x2048.size a ≤ S2048x2048.size a,
    (Rect.unit (s := S2048x2048) o S32x2048.size h).WholeWords (EltTy.packing .bf16) ∧
    (Rect.unit (s := S2048x2048) o S32x2048.size h).PackedRows (EltTy.packing .bf16)}

/-- The chunk at an origin. -/
abbrev Off.rect (o : Off) : Rect S2048x2048 := Rect.unit (s := S2048x2048) o.1 S32x2048.size o.2.1

/-- The origin of a chunk of 32 rows of the partial array. -/
def Off1 : Type := {o : Fin 3 → ℕ // ∀ a, o a + S1x32x2048.size a ≤ S1x2048x2048.size a}
/-- The origin of a block of 512 rows of the residual array. -/
def Off2 : Type := {o : Fin 2 → ℕ // ∀ a, o a + S512x2048.size a ≤ S2048x2048.size a}

/-- Chunk `j` of block `b`: rows `512 b + 32 j` on. -/
def gOff (b : Fin 4) (j : Fin 16) : Off :=
  ⟨![512 * b.val + 32 * j.val, 0],
    (by decide +kernel : ∀ (b : Fin 4) (j : Fin 16),
      ∃ h : ∀ a, (![512 * b.val + 32 * j.val, 0] : Fin 2 → ℕ) a + S32x2048.size a ≤ S2048x2048.size a,
      (Rect.unit (s := S2048x2048) ![512 * b.val + 32 * j.val, 0] S32x2048.size h).WholeWords (EltTy.packing .bf16) ∧
      (Rect.unit (s := S2048x2048) ![512 * b.val + 32 * j.val, 0] S32x2048.size h).PackedRows (EltTy.packing .bf16)) b j⟩

/-- The same chunk of the partial array. -/
def pOff (b : Fin 4) (j : Fin 16) : Off1 :=
  ⟨![0, 512 * b.val + 32 * j.val, 0], (by decide +kernel : ∀ (b : Fin 4) (j : Fin 16) (a : Fin 3),
    (![0, 512 * b.val + 32 * j.val, 0] : Fin 3 → ℕ) a + S1x32x2048.size a ≤ S1x2048x2048.size a) b j⟩

/-- Block `b` of the residual array. -/
def rOff (b : Fin 4) : Off2 :=
  ⟨![512 * b.val, 0], (by decide +kernel : ∀ (b : Fin 4) (a : Fin 2),
    (![512 * b.val, 0] : Fin 2 → ℕ) a + S512x2048.size a ≤ S2048x2048.size a) b⟩

/-! ## The mesh -/

/-- The block a device computes, and its peers' blocks. -/
def qo (d : Dev nD) : Fin 4 := ⟨2 * ((d.val / 2) % 2) + d.val % 2, by omega⟩
/-- The block of the peer across y. -/
def qy (d : Dev nD) : Fin 4 := ⟨2 * (1 - (d.val / 2) % 2) + d.val % 2, by omega⟩
/-- The block of the peer across z. -/
def qz (d : Dev nD) : Fin 4 := ⟨2 * ((d.val / 2) % 2) + (1 - d.val % 2), by omega⟩
/-- The block of the peer across both. -/
def qd (d : Dev nD) : Fin 4 := ⟨2 * (1 - (d.val / 2) % 2) + (1 - d.val % 2), by omega⟩

/-- The device across each axis. -/
def xp (d : Dev nD) : Dev nD := ⟨(d.val + 4) % 8, Nat.mod_lt _ (by decide)⟩
/-- The device across y. -/
def yp (d : Dev nD) : Dev nD := ⟨4 * (d.val / 4) + 2 * (1 - (d.val / 2) % 2) + d.val % 2, by
  have h : d.val < 8 := d.isLt
  show _ < 8
  omega⟩
/-- The device across z. -/
def zp (d : Dev nD) : Dev nD := ⟨4 * (d.val / 4) + 2 * ((d.val / 2) % 2) + (1 - d.val % 2), by
  have h : d.val < 8 := d.isLt
  show _ < 8
  omega⟩

/-! ## The addresses the kernel computes -/

/-- The address at which a result is stored is the chunk's in the own block. -/
theorem off3_eq : ∀ (d : Dev nD) (j : Fin 16), k0_off3 d (BitVec.ofNat 32 (32 * j.val)) = (gOff (qo d) j).1 := by
  decide +kernel
/-- So is the address of the chunk that is sent. -/
theorem off4_eq : ∀ (d : Dev nD) (j : Fin 16), k0_off4 d (BitVec.ofNat 32 (32 * j.val)) = (gOff (qo d) j).1 := by
  decide +kernel
/-- An address of a chunk from across z. -/
theorem off6_eq : ∀ (d : Dev nD) (j : Fin 16), k0_off6 d (BitVec.ofNat 32 (32 * j.val)) = (gOff (qz d) j).1 := by
  decide +kernel
/-- An address of a chunk from across y. -/
theorem off8_eq : ∀ (d : Dev nD) (j : Fin 16), k0_off8 d (BitVec.ofNat 32 (32 * j.val)) = (gOff (qy d) j).1 := by
  decide +kernel
/-- An address of a chunk from the diagonal. -/
theorem off9_eq : ∀ (d : Dev nD) (j : Fin 16), k0_off9 d (BitVec.ofNat 32 (32 * j.val)) = (gOff (qd d) j).1 := by
  decide +kernel
/-- Chunk `j` of the first half, and of the second. -/
def lo (j : Fin 8) : Fin 16 := ⟨j.val, by omega⟩
/-- Chunk `j` of the second half. -/
def hi (j : Fin 8) : Fin 16 := ⟨8 + j.val, by omega⟩
/-- The address of a chunk that is forwarded across y. -/
theorem off5_eq : ∀ (d : Dev nD) (j : Fin 8), k0_off5 d (BitVec.ofNat 32 (32 * j.val)) = (gOff (qz d) (lo j)).1 := by
  decide +kernel
/-- The address of a chunk that is forwarded across z. -/
theorem off7_eq : ∀ (d : Dev nD) (j : Fin 8), k0_off7 d (BitVec.ofNat 32 (256 + 32 * j.val)) = (gOff (qy d) (hi j)).1 := by
  decide +kernel
/-- The address of a chunk of the partial array. -/
theorem off1_eq : ∀ (d : Dev nD) (j : Fin 16), k0_off1 d (BitVec.ofNat 32 (32 * j.val)) = (pOff (qo d) j).1 := by
  decide +kernel
/-- The address of the block of the residual array. -/
theorem off2_eq : ∀ (d : Dev nD), k0_off2 d = (rOff (qo d)).1 := by decide +kernel

/-- An origin equal to a chunk's is one. -/
def Off.of (o : Fin 2 → ℕ) (b : Fin 4) (j : Fin 16) (h : o = (gOff b j).1) : Off := ⟨o, h ▸ (gOff b j).2⟩
/-- It is that chunk's. -/
theorem Off.of_eq (o : Fin 2 → ℕ) (b : Fin 4) (j : Fin 16) (h : o = (gOff b j).1) : Off.of o b j h = gOff b j :=
  Subtype.ext h

/-- The kernel's third address, as a chunk's. -/
def o3 (d : Dev nD) (j : Fin 16) : Off := Off.of (k0_off3 d (BitVec.ofNat 32 (32 * j.val))) _ _ (off3_eq d j)
/-- Its fourth. -/
def o4 (d : Dev nD) (j : Fin 16) : Off := Off.of (k0_off4 d (BitVec.ofNat 32 (32 * j.val))) _ _ (off4_eq d j)
/-- Its sixth. -/
def o6 (d : Dev nD) (j : Fin 16) : Off := Off.of (k0_off6 d (BitVec.ofNat 32 (32 * j.val))) _ _ (off6_eq d j)
/-- Its eighth. -/
def o8 (d : Dev nD) (j : Fin 16) : Off := Off.of (k0_off8 d (BitVec.ofNat 32 (32 * j.val))) _ _ (off8_eq d j)
/-- Its ninth. -/
def o9 (d : Dev nD) (j : Fin 16) : Off := Off.of (k0_off9 d (BitVec.ofNat 32 (32 * j.val))) _ _ (off9_eq d j)
/-- Its fifth. -/
def o5 (d : Dev nD) (j : Fin 8) : Off := Off.of (k0_off5 d (BitVec.ofNat 32 (32 * j.val))) _ _ (off5_eq d j)
/-- Its seventh. -/
def o7 (d : Dev nD) (j : Fin 8) : Off := Off.of (k0_off7 d (BitVec.ofNat 32 (256 + 32 * j.val))) _ _ (off7_eq d j)
/-- Its first. -/
def o1 (d : Dev nD) (j : Fin 16) : Off1 := ⟨k0_off1 d (BitVec.ofNat 32 (32 * j.val)), k0_off1_inb d j⟩
/-- Its second. -/
def o2 (d : Dev nD) : Off2 := ⟨k0_off2 d, k0_off2_inb d⟩

/-! ## Semaphores -/

/-- Each of sixteen semaphores lies in its array. -/
theorem inb16 : ∀ j : Fin 16, ∀ a, (![j.val] : Fin 1 → ℕ) a + S1.size a ≤ S16.size a := by decide +kernel
/-- Each of eight does. -/
theorem inb8 : ∀ j : Fin 8, ∀ a, (![j.val] : Fin 1 → ℕ) a + S1.size a ≤ S8.size a := by decide +kernel

/-- The `j`-th semaphore of an array of 16, of 8, and the one of an array of 1. -/
abbrev sem16 (s : DmaSems sig S16) (j : Fin 16) : DmaSem sig :=
  ((s.slice (Rect.unit (s := S16) ![j.val] S1.size (inb16 j))).squeeze S_ squeezes_S1_S_).sem
/-- The `j`-th semaphore of an array of 8. -/
abbrev sem8 (s : DmaSems sig S8) (j : Fin 8) : DmaSem sig :=
  ((s.slice (Rect.unit (s := S8) ![j.val] S1.size (inb8 j))).squeeze S_ squeezes_S1_S_).sem
/-- The one of an array of 1. -/
abbrev sem1 (s : DmaSems sig S1) : DmaSem sig :=
  ((s.slice (Rect.unit (s := S1) ![0] S1.size inb_S1_S1_0)).squeeze S_ squeezes_S1_S_).sem

/-! ## The buffers -/

/-- The partial array. -/
abbrev aPart : Memref sig .tc .hbm S1x2048x2048 .f32 := Memref.whole main_arg0
/-- The residual array. -/
abbrev aRes : Memref sig .tc .hbm S2048x2048 .f32 := Memref.whole main_arg1
/-- The staged scale. -/
abbrev aGam : Memref sig .tc .vmem S1x2048 .f32 := Memref.whole cc0_stg0_0
/-- The staged result. -/
abbrev aOut : Memref sig .tc .vmem S2048x2048 .f32 := Memref.whole cc0_stg1_0
/-- The local copy of the partial block. -/
abbrev aPloc : Memref sig .tc .vmem S512x2048 .f32 := Memref.whole cc0_scratch0
/-- The local copy of the residual block. -/
abbrev aRloc : Memref sig .tc .vmem S512x2048 .f32 := Memref.whole cc0_scratch1
/-- The narrowed partial block, sent across x. -/
abbrev aPbf : Memref sig .tc .vmem S512x2048 .bf16 := Memref.whole cc0_scratch2
/-- What is received across x. -/
abbrev aRecv : Memref sig .tc .vmem S512x2048 .bf16 := Memref.whole cc0_scratch3
/-- The gathered result. -/
abbrev aGath : Memref sig .tc .vmem S2048x2048 .bf16 := Memref.whole cc0_scratch4

/-- Chunks of them. -/
abbrev mPart (o : Off1) : Memref sig .tc .hbm S32x2048 .f32 :=
  (aPart.slice (Rect.unit (s := S1x2048x2048) o.1 S1x32x2048.size o.2) (fun _ => rfl)).squeeze S32x2048 squeezes_S1x32x2048_S32x2048
/-- A block of the residual array. -/
abbrev mRes (o : Off2) : Memref sig .tc .hbm S512x2048 .f32 :=
  aRes.slice (Rect.unit (s := S2048x2048) o.1 S512x2048.size o.2) (fun _ => rfl)
/-- A chunk of the local partial block. -/
abbrev mPloc (j : Fin 16) : Memref sig .tc .vmem S32x2048 .f32 := aPloc.slice (rQ j) (fun _ => rfl)
/-- A chunk of the narrowed one. -/
abbrev mPbf (j : Fin 16) : Memref sig .tc .vmem S32x2048 .bf16 := aPbf.slice (rQ j) (fun _ => rfl)
/-- A chunk received across x. -/
abbrev mRecv (j : Fin 16) : Memref sig .tc .vmem S32x2048 .bf16 := aRecv.slice (rQ j) (fun _ => rfl)
/-- A chunk of the gathered result. -/
abbrev mGath (o : Off) : Memref sig .tc .vmem S32x2048 .bf16 := aGath.slice o.rect (fun _ => rfl)

/-! ## The steps

Each is a program before the rest `k`. -/

/-- Start the copy of chunk `j` of the device's block of the partial array. -/
def copyIn (w1 : Fin 16 → Off1) (j : Fin 16) (k : P F) : P F :=
  .op (.enqueueDma (mPart (w1 j)) (.here (mPloc j)) (.dma (sem16 cc0_scratch15 j))
    ((View.wordExact_bits rfl).reshape _ _) (View.wordExact_bits rfl) ⟨Or.inl rfl, trivial⟩) fun _ => k

/-- Start the copy of the device's block of the residual array. -/
def copyRes (w2 : Off2) (k : P F) : P F :=
  .op (.enqueueDma (mRes w2) (.here aRloc) (.dma (sem1 cc0_scratch16))
    (View.wordExact_bits rfl) (Memref.isWhole_whole cc0_scratch1).wordExact ⟨Or.inl rfl, trivial⟩) fun _ => k

/-- The barrier's semaphore. -/
abbrev semB : Sem sig := (SemArray.scalar (sig.barrier 0 rfl) : Sems sig S_).sem

/-- The barrier: a unit to each peer, then three of one's own. -/
def barrier (px py pz : Dev nD) (k : P F) : P F :=
  .op (.semSignal (px, .tc) semB 1) fun _ =>
  .op (.semSignal (py, .tc) semB 1) fun _ =>
  .op (.semSignal (pz, .tc) semB 1) fun _ =>
  .op (.semWait semB 3) fun _ => k

/-- Chunk `j` of the block, rounded and sent across x. -/
def stepX (w1 : Fin 16 → Off1) (px : Dev nD) (j : Fin 16) (k : P F) : P F :=
  .op (.waitDma2 (sem16 cc0_scratch15 j) (mPart (w1 j)) (mPloc j) ((View.wordExact_bits rfl).reshape _ _) (View.wordExact_bits rfl)) fun _ =>
  .op (.load aPloc (rQ j).toLoadRect (View.loadsAt_vmem h_S32x2048)) fun v =>
  .op (.load aPbf (rQ j).toLoadRect (View.loadsAt_vmem h_S32x2048)) fun _ =>
  .op (.store aPbf (rQ j) (k0_pay1 v) Finset.univ
    (View.stores_vmem h_S32x2048 ((Memref.isWhole_whole cc0_scratch2).storeExact_slice rfl _ (rQ_packed j)) (fun _ => rfl)) (.inl rfl)) fun _ =>
  .op (.enqueueDma (mPbf j) (.remote (Dev.tc px) (mRecv j) (.dma (sem16 cc0_scratch5 j))) (.dma (sem16 cc0_scratch6 j))
    ((Memref.isWhole_whole cc0_scratch2).wordExact_slice rfl _ (rQ_words j))
    ((Memref.isWhole_whole cc0_scratch3).wordExact_slice rfl _ (rQ_words j)) ⟨⟨rfl, Or.inl rfl⟩, trivial⟩) fun _ => k

/-- Wait for the residual block. -/
def waitRes (w2 : Off2) (k : P F) : P F :=
  .op (.waitDma2 (sem1 cc0_scratch16) (mRes w2) aRloc (View.wordExact_bits rfl) (Memref.isWhole_whole cc0_scratch1).wordExact) fun _ => k

/-- Send a chunk of the gathered array. -/
def sendG (o : Off) (p : Dev nD) (s r : DmaSem sig) (k : P F) : P F :=
  .op (.enqueueDma (mGath o) (.remote (Dev.tc p) (mGath o) (.dma s)) (.dma r)
    ((Memref.isWhole_whole cc0_scratch4).wordExact_slice rfl _ o.2.2.1)
    ((Memref.isWhole_whole cc0_scratch4).wordExact_slice rfl _ o.2.2.1) ⟨⟨rfl, Or.inl rfl⟩, trivial⟩) fun _ => k

/-- Wait for a chunk of the gathered array. -/
def waitG (o : Off) (s : DmaSem sig) (k : P F) : P F :=
  .op (.waitDma2 s (mGath o) (mGath o)
    ((Memref.isWhole_whole cc0_scratch4).wordExact_slice rfl _ o.2.2.1)
    ((Memref.isWhole_whole cc0_scratch4).wordExact_slice rfl _ o.2.2.1)) fun _ => k

/-- Chunk `j` of the device's own result: computed, kept, rounded and sent across y and z. -/
def stepC (w3 w4 : Fin 16 → Off) (py pz : Dev nD) (gam : FVec F S1x2048 .f32) (j : Fin 16) (k : P F) : P F :=
  .op (.waitDma2 (sem16 cc0_scratch6 j) (mPbf j) (mRecv j)
    ((Memref.isWhole_whole cc0_scratch2).wordExact_slice rfl _ (rQ_words j))
    ((Memref.isWhole_whole cc0_scratch3).wordExact_slice rfl _ (rQ_words j))) fun _ =>
  .op (.load aPloc (rQ j).toLoadRect (View.loadsAt_vmem h_S32x2048)) fun v =>
  .op (.load aRecv (rQ j).toLoadRect (View.loadsAt_vmem h_S32x2048)) fun r =>
  .op (.load aRloc (rQ j).toLoadRect (View.loadsAt_vmem h_S32x2048)) fun s =>
  .op (.load aGath (w3 j).rect.toLoadRect (View.loadsAt_vmem h_S32x2048)) fun _ =>
  .op (.store aGath (w3 j).rect (k0_pay20 gam v r s) Finset.univ
    (View.stores_vmem h_S32x2048 ((Memref.isWhole_whole cc0_scratch4).storeExact_slice rfl _ (w3 j).2.2.2) (fun _ => rfl)) (.inl rfl)) fun _ =>
  sendG (w4 j) py (sem16 cc0_scratch7 j) (sem16 cc0_scratch8 j) <|
  sendG (w4 j) pz (sem16 cc0_scratch9 j) (sem16 cc0_scratch10 j) <|
  .op (.load aOut (w3 j).rect.toLoadRect (View.loadsAt_vmem h_S32x2048)) fun _ =>
  .op (.store aOut (w3 j).rect (k0_pay19 gam v r s) Finset.univ (View.stores_vmem_bits_univ h_S32x2048 rfl) (.inl rfl)) fun _ => k

/-- Widen a gathered chunk into the output. -/
def upcast (o : Off) (k : P F) : P F :=
  .op (.load aGath o.rect.toLoadRect (View.loadsAt_vmem h_S32x2048)) fun g =>
  .op (.load aOut o.rect.toLoadRect (View.loadsAt_vmem h_S32x2048)) fun _ =>
  .op (.store aOut o.rect (k0_pay62 g) Finset.univ (View.stores_vmem_bits_univ h_S32x2048 rfl) (.inl rfl)) fun _ => k

/-- A chunk received across z: forwarded across y and widened. -/
def stepD (w4 w6 : Fin 16 → Off) (w5 : Fin 8 → Off) (py : Dev nD) (j : Fin 8) (k : P F) : P F :=
  waitG (w4 (lo j)) (sem16 cc0_scratch10 (lo j)) <|
  sendG (w5 j) py (sem8 cc0_scratch11 j) (sem8 cc0_scratch12 j) <|
  upcast (w6 (lo j)) k

/-- A chunk received across y: forwarded across z and widened. -/
def stepE (w4 w8 : Fin 16 → Off) (w7 : Fin 8 → Off) (pz : Dev nD) (j : Fin 8) (k : P F) : P F :=
  waitG (w4 (hi j)) (sem16 cc0_scratch8 (hi j)) <|
  sendG (w7 j) pz (sem8 cc0_scratch13 j) (sem8 cc0_scratch14 j) <|
  upcast (w8 (hi j)) k

/-- A chunk received: widened. -/
def stepU (o o' : Off) (s : DmaSem sig) (k : P F) : P F := waitG o s (upcast o' k)

/-- Wait for a chunk's send across x. -/
def waitSX (j : Fin 16) (k : P F) : P F :=
  .op (.waitDma2 (sem16 cc0_scratch5 j) (mRecv j) (mPbf j)
    ((Memref.isWhole_whole cc0_scratch3).wordExact_slice rfl _ (rQ_words j))
    ((Memref.isWhole_whole cc0_scratch2).wordExact_slice rfl _ (rQ_words j))) fun _ => k

/-- The chunks in order. -/
abbrev L16 : List (Fin 16) := [0, 1, 2, 3, 4, 5, 6, 7, 8, 9, 10, 11, 12, 13, 14, 15]
/-- The chunks of a half in order. -/
abbrev L8 : List (Fin 8) := [0, 1, 2, 3, 4, 5, 6, 7]

/-- The body over its addresses and peers. -/
def prog (w1 : Fin 16 → Off1) (w2 : Off2) (w3 w4 w6 w8 w9 : Fin 16 → Off) (w5 w7 : Fin 8 → Off) (px py pz : Dev nD) : P F :=
  loop (copyIn w1) L16 <|
  copyRes w2 <|
  barrier px py pz <|
  loop (stepX w1 px) L16 <|
  waitRes w2 <|
  .op (.load aGam (Rect.unit (s := S1x2048) ![0, 0] S1x2048.size inb_S1x2048_S1x2048_0_0).toLoadRect (View.loadsAt_vmem h_S1x2048)) fun g =>
  loop (stepC w3 w4 py pz (k0_pay18 g)) L16 <|
  loop (stepD w4 w6 w5 py) L8 <|
  loop (stepE w4 w8 w7 pz) L8 <|
  loop (fun j => stepU (w4 (hi j)) (w6 (hi j)) (sem16 cc0_scratch10 (hi j))) L8 <|
  loop (fun j => stepU (w4 (lo j)) (w8 (lo j)) (sem16 cc0_scratch8 (lo j))) L8 <|
  loop (fun j => stepU (w5 j) (w9 (lo j)) (sem8 cc0_scratch12 j)) L8 <|
  loop (fun j => stepU (w7 j) (w9 (hi j)) (sem8 cc0_scratch14 j)) L8 <|
  loop waitSX L16 <|
  loop (fun j => waitG (w4 j) (sem16 cc0_scratch7 j)) L16 <|
  loop (fun j => waitG (w4 j) (sem16 cc0_scratch9 j)) L16 <|
  loop (fun j => waitG (w5 j) (sem8 cc0_scratch11 j)) L8 <|
  loop (fun j => waitG (w7 j) (sem8 cc0_scratch13 j)) L8 <|
  .ret ⟨⟩

/-- The printed body is this program at the addresses the kernel computes. -/
theorem body_eq_words (t : Fin cfg0.N) : bodyAt0 (F := F) t = (.op .deviceId fun d =>
    prog (o1 d) (o2 d) (o3 d) (o4 d) (o6 d) (o8 d) (o9 d) (o5 d) (o7 d)
      ⟨k0_dev1 d, k0_dev1_lt d⟩ ⟨k0_dev2 d, k0_dev2_lt d⟩ ⟨k0_dev3 d, k0_dev3_lt d⟩) := by
  chain_rfl

/-- The first device the kernel names is the peer across x. -/
theorem dev1_eq (d : Dev nD) : (⟨k0_dev1 d, k0_dev1_lt d⟩ : Dev nD) = xp d :=
  (by decide +kernel : ∀ d : Dev nD, (⟨k0_dev1 d, k0_dev1_lt d⟩ : Dev nD) = xp d) d
/-- The second is the peer across y. -/
theorem dev2_eq (d : Dev nD) : (⟨k0_dev2 d, k0_dev2_lt d⟩ : Dev nD) = yp d :=
  (by decide +kernel : ∀ d : Dev nD, (⟨k0_dev2 d, k0_dev2_lt d⟩ : Dev nD) = yp d) d
/-- The third is the peer across z. -/
theorem dev3_eq (d : Dev nD) : (⟨k0_dev3 d, k0_dev3_lt d⟩ : Dev nD) = zp d :=
  (by decide +kernel : ∀ d : Dev nD, (⟨k0_dev3 d, k0_dev3_lt d⟩ : Dev nD) = zp d) d

/-- The body on device `d`, at the blocks and the peers in closed form. -/
def body (d : Dev nD) : P F :=
  prog (pOff (qo d)) (rOff (qo d)) (gOff (qo d)) (gOff (qo d)) (gOff (qz d)) (gOff (qy d)) (gOff (qd d))
    (fun j => gOff (qz d) (lo j)) (fun j => gOff (qy d) (hi j)) (xp d) (yp d) (zp d)

/-- The printed body is the program in closed form. -/
theorem body_eq (t : Fin cfg0.N) : bodyAt0 (F := F) t = (.op .deviceId fun d => body d) := by
  rw [body_eq_words]
  congr 1
  funext d
  have e1 : o1 d = pOff (qo d) := funext fun j => Subtype.ext (off1_eq d j)
  have e2 : o2 d = rOff (qo d) := Subtype.ext (off2_eq d)
  have e3 : o3 d = gOff (qo d) := funext fun j => Off.of_eq ..
  have e4 : o4 d = gOff (qo d) := funext fun j => Off.of_eq ..
  have e6 : o6 d = gOff (qz d) := funext fun j => Off.of_eq ..
  have e8 : o8 d = gOff (qy d) := funext fun j => Off.of_eq ..
  have e9 : o9 d = gOff (qd d) := funext fun j => Off.of_eq ..
  have e5 : o5 d = fun j => gOff (qz d) (lo j) := funext fun j => Off.of_eq ..
  have e7 : o7 d = fun j => gOff (qy d) (hi j) := funext fun j => Off.of_eq ..
  rw [body, e1, e2, e3, e4, e5, e6, e7, e8, e9, dev1_eq, dev2_eq, dev3_eq]

end Cert.KernelIdeal.Run

end
-- ==== Proof.Cells.lean ====
module

public import proofs.«01_k».proof.Proof.Program
public import Idealize.ShloMosaic.Lib.Pipeline.Regions
public import Idealize.ShloMosaic.Lib.Pipeline.RegionTalk
public import Idealize.ShloMosaic.Lib.Rounds
public import Idealize.ShloMosaic.Lib.Memref
public import Idealize.ShloMosaic.Lib.MemrefSat
public import Idealize.ShloMosaic.Lib.Tactic

/-! The protocol: the kinds of DMA cells of a device, what each is paid, and by whom. -/

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type}

/-! ## Separating conjunction along a list -/

section SepL
variable {M : Type} [URA M] {ι κ : Type}

/-- Assertions that entail each other are equal. -/
theorem eqv {P Q : sProp M} (h : P ⊣⊢ Q) : P = Q := BI.equiv_iff.mp ⟨h.1, h.2⟩

/-- The conjunction of `Φ` along a list. -/
def sepL (Φ : ι → sProp M) : List ι → sProp M
  | [] => iprop(emp)
  | i :: l => iprop(Φ i ∗ sepL Φ l)

/-- The conjunction along two lists joined is the two conjunctions. -/
theorem sepL_append (Φ : ι → sProp M) : ∀ l l' : List ι, sepL Φ (l ++ l') = iprop(sepL Φ l ∗ sepL Φ l')
  | [], l' => (eqv Laws.emp_sep).symm
  | i :: l, l' => by
    show iprop(Φ i ∗ sepL Φ (l ++ l')) = iprop((Φ i ∗ sepL Φ l) ∗ sepL Φ l')
    rw [sepL_append Φ l l']; exact (eqv Laws.sep_assoc).symm

/-- The conjunction along a mapped list. -/
theorem sepL_map (f : κ → ι) (Φ : ι → sProp M) : ∀ l : List κ, sepL Φ (l.map f) = sepL (fun i => Φ (f i)) l
  | [] => rfl
  | i :: l => by show iprop(Φ (f i) ∗ sepL Φ (l.map f)) = _; rw [sepL_map f Φ l]; rfl

/-- A conjunction of pairs is the pair of the conjunctions. -/
theorem sepL_sep (Φ Ψ : ι → sProp M) : ∀ l : List ι, sepL (fun i => iprop(Φ i ∗ Ψ i)) l = iprop(sepL Φ l ∗ sepL Ψ l)
  | [] => (eqv Laws.emp_sep).symm
  | i :: l => by
    show iprop((Φ i ∗ Ψ i) ∗ sepL (fun i => iprop(Φ i ∗ Ψ i)) l) = iprop((Φ i ∗ sepL Φ l) ∗ (Ψ i ∗ sepL Ψ l))
    rw [sepL_sep Φ Ψ l]; exact eqv sep_sep_sep_comm

/-- The conjunction is monotone in what it ranges over. -/
theorem sepL_mono {Φ Ψ : ι → sProp M} (h : ∀ i, Φ i ⊢ Ψ i) : ∀ l : List ι, sepL Φ l ⊢ sepL Ψ l
  | [] => .rfl
  | i :: l => BIClass.sep_mono (h i) (sepL_mono h l)

/-- A conjunction of storable assertions is storable. -/
instance sepL_storable {M' : Type} [URA M'] {E : UEmb M M'} [E.IsFactor] (Φ : ι → sProp M') [h : ∀ i, BI.Storable E (Φ i)] : ∀ l : List ι, BI.Storable E (sepL Φ l)
  | [] => by unfold sepL; infer_instance
  | i :: l => by unfold sepL; have := sepL_storable (E := E) Φ l; infer_instance

/-- Over a list without repetition, the conjunction over its set is the one along the list. -/
theorem bigSep_toFinset [DecidableEq ι] (Φ : ι → sProp M) : ∀ l : List ι, l.Nodup → bigSep l.toFinset Φ = sepL Φ l
  | [], _ => by rw [List.toFinset_nil, bigSep_empty]; rfl
  | i :: l, h => by
    rw [List.toFinset_cons, bigSep_insert (by rw [List.mem_toFinset]; exact (List.nodup_cons.mp h).1),
      bigSep_toFinset Φ l (List.nodup_cons.mp h).2]; rfl

/-- Over a finite type, the conjunction is the one along any list that has every element once. -/
theorem bigSep_univ_list [Fintype ι] [DecidableEq ι] (Φ : ι → sProp M) (l : List ι) (h : l.Nodup) (hu : ∀ i, i ∈ l) :
    bigSep Finset.univ Φ = sepL Φ l := by
  rw [← bigSep_toFinset Φ l h]; congr 1; exact (Finset.eq_univ_of_forall fun i => List.mem_toFinset.mpr (hu i)).symm

/-- The conjunction over sixteen chunks is the one along their list. -/
theorem bigSep16 (Φ : Fin 16 → sProp M) : bigSep Finset.univ Φ = sepL Φ L16 :=
  bigSep_univ_list Φ L16 (by decide) (by decide)

/-- The conjunction over sixteen chunks is the one over the first eight and the one over the last eight. -/
theorem sepL_halves (Φ : Fin 16 → sProp M) :
    sepL Φ L16 = iprop(sepL (fun j => Φ (lo j)) L8 ∗ sepL (fun j => Φ (hi j)) L8) := by
  rw [show L16 = L8.map lo ++ L8.map hi from by decide, sepL_append, sepL_map, sepL_map]

end SepL

/-! ## The cells -/

/-- The kinds of DMA cells: the local copies into the partial chunks and the residual block; across x sent and received;
    across y and across z, the own chunks sent and received; the chunks forwarded across y, and across z. -/
inductive Kd
  | pl (j : Fin 16) | lc
  | xs (j : Fin 16) | xr (j : Fin 16) | ys (j : Fin 16) | yr (j : Fin 16) | zs (j : Fin 16) | zr (j : Fin 16)
  | fs (j : Fin 8) | fr (j : Fin 8) | gs (j : Fin 8) | gr (j : Fin 8)
  deriving DecidableEq

/-- Every kind, once. -/
def allK : List Kd :=
  L16.map .pl ++ ([.lc] ++ (L16.map .xs ++ (L16.map .xr ++ (L16.map .ys ++ (L16.map .yr ++ (L16.map .zs ++ (L16.map .zr
    ++ (L8.map .fs ++ (L8.map .fr ++ (L8.map .gs ++ L8.map .gr))))))))))

/-- No kind is listed twice. -/
theorem allK_nodup : allK.Nodup := by decide +kernel
/-- Every chunk is in the list of sixteen. -/
theorem L16_mem (j : Fin 16) : j ∈ L16 := by revert j; decide
/-- Every chunk of a half is in the list of eight. -/
theorem L8_mem (j : Fin 8) : j ∈ L8 := by revert j; decide
/-- Every kind is listed. -/
theorem allK_mem (k : Kd) : k ∈ allK := by
  unfold allK
  simp only [List.mem_append, List.mem_map, List.mem_singleton]
  cases k <;> simp [L16_mem, L8_mem, -List.mem_cons]

instance : Fintype Kd := ⟨allK.toFinset, fun k => List.mem_toFinset.mpr (allK_mem k)⟩

/-- The semaphore of a kind. -/
def sm : Kd → DmaSem sig
  | .pl j => sem16 cc0_scratch15 j
  | .lc => sem1 cc0_scratch16
  | .xs j => sem16 cc0_scratch5 j
  | .xr j => sem16 cc0_scratch6 j
  | .ys j => sem16 cc0_scratch7 j
  | .yr j => sem16 cc0_scratch8 j
  | .zs j => sem16 cc0_scratch9 j
  | .zr j => sem16 cc0_scratch10 j
  | .fs j => sem8 cc0_scratch11 j
  | .fr j => sem8 cc0_scratch12 j
  | .gs j => sem8 cc0_scratch13 j
  | .gr j => sem8 cc0_scratch14 j

/-- The kind at a semaphore. -/
def dec (s : DmaSem sig) : Option Kd := allK.find? fun k => decide (sm k = s)

/-- The kind at a kind's semaphore is that kind. -/
theorem dec_sm (k : Kd) : dec (sm k) = some k := by
  have h : ∀ k ∈ allK, dec (sm k) = some k := by decide +kernel
  exact h k (allK_mem k)

/-- Two kinds have two semaphores. -/
theorem sm_inj : Function.Injective sm := fun k k' h => by
  have := dec_sm k; rw [h, dec_sm k'] at this; exact (Option.some.inj this).symm

/-- Device `c`'s cell of a kind, and its barrier cell. -/
abbrev cell (c : Dev nD) (k : Kd) : GSem nD τ sig := ((c : Thread nD τ), .dma (sm k))
/-- Its barrier cell. -/
abbrev barCell (c : Dev nD) : GSem nD τ sig := ((c : Thread nD τ), .reg semB)

/-! ## The mesh, both ways -/

/-- The peer across x of the peer across x is the device. -/
theorem xx (c : Dev nD) : xp (xp c) = c := (by decide +kernel : ∀ c : Dev nD, xp (xp c) = c) c
/-- The same across y. -/
theorem yy (c : Dev nD) : yp (yp c) = c := (by decide +kernel : ∀ c : Dev nD, yp (yp c) = c) c
/-- The same across z. -/
theorem zz (c : Dev nD) : zp (zp c) = c := (by decide +kernel : ∀ c : Dev nD, zp (zp c) = c) c
/-- Crossing y then z is crossing z then y. -/
theorem zy (c : Dev nD) : zp (yp c) = yp (zp c) := (by decide +kernel : ∀ c : Dev nD, zp (yp c) = yp (zp c)) c
/-- The block across y of the peer across y is one's own. -/
theorem qy_yp (c : Dev nD) : qy (yp c) = qo c := (by decide +kernel : ∀ c : Dev nD, qy (yp c) = qo c) c
/-- The block across z of the peer across z is one's own. -/
theorem qz_zp (c : Dev nD) : qz (zp c) = qo c := (by decide +kernel : ∀ c : Dev nD, qz (zp c) = qo c) c
/-- The diagonal block of the peer across y is the block across z. -/
theorem qd_yp (c : Dev nD) : qd (yp c) = qz c := (by decide +kernel : ∀ c : Dev nD, qd (yp c) = qz c) c
/-- The diagonal block of the peer across z is the block across y. -/
theorem qd_zp (c : Dev nD) : qd (zp c) = qy c := (by decide +kernel : ∀ c : Dev nD, qd (zp c) = qy c) c
/-- The peer across y computes the block across y. -/
theorem qo_yp (c : Dev nD) : qo (yp c) = qy c := (by decide +kernel : ∀ c : Dev nD, qo (yp c) = qy c) c
/-- The peer across z computes the block across z. -/
theorem qo_zp (c : Dev nD) : qo (zp c) = qz c := (by decide +kernel : ∀ c : Dev nD, qo (zp c) = qz c) c
/-- The peer across x computes the same block. -/
theorem qo_xp (c : Dev nD) : qo (xp c) = qo c := (by decide +kernel : ∀ c : Dev nD, qo (xp c) = qo c) c

/-! ## The resource algebra -/

/-- The ghost state of the kernel's cells: rounds with up to three duties. -/
abbrev UB : Type := URounds (GSem nD τ sig) (Fin 3)
/-- The ghost state of the staging cells, and of the kernel's. -/
abbrev UU : Type := UR sig nD τ × UB

local notation "𝕄" => MT nD τ sig Unit (Elt F) ℕ UU ℕ

/-- Where the staging cells' ghost state lies. -/
abbrev EP : Emb (UR sig nD τ) (MT nD τ sig Unit (Elt F) ℕ UU ℕ) := embL
/-- Where the kernel's lies. -/
abbrev ER : Emb UB (MT nD τ sig Unit (Elt F) ℕ UU ℕ) := embR

/-- Owned at some contents. -/
def ownsAny (c : Dev nD) {sp : Space} {sh : Shape} {e : EltTy} (m : Memref sig .tc sp sh e) : sProp 𝕄 :=
  iprop(∃ X, ownsTc c m fullShare X)

/-- Owning a buffer at some contents is storable. -/
instance ownsAny_storable (c : Dev nD) {sp : Space} {sh : Shape} {e : EltTy} (m : Memref sig .tc sp sh e) :
    BI.Storable (upEmb : UEmb _ 𝕄) (ownsAny (F := F) c m) := by
  unfold ownsAny; infer_instance

variable [FloatOps F]
variable (m : (ℓ : Loc nD τ sig) → Buf (Elt F) ℓ)

/-! ## The values -/

/-- What a device holds at launch, and after the host's reshape of gamma. -/
abbrev V₀ (c : Dev nD) : Valuation τ sig (Elt F) := fun b => m ((c : Dev nD), b)
/-- What a device's buffers hold after the host's operations. -/
abbrev V₁ (c : Dev nD) : Valuation τ sig (Elt F) := StableHlo.after hostOps0 (V₀ m c)

/-- Chunk `j` of the device's block of its partial array, as it stands at launch. -/
def partC (c : Dev nD) (j : Fin 16) : FVec F S32x2048 .f32 :=
  (mPart (pOff (qo c) j)).view.read (Elt F) (m ((c : Thread nD τ).loc main_arg0))
/-- The device's block of the residual array. -/
def resB (c : Dev nD) : FVec F S512x2048 .f32 :=
  (mRes (rOff (qo c))).view.read (Elt F) (m ((c : Thread nD τ).loc main_arg1))
/-- Chunk `j` of it. -/
def resC (c : Dev nD) (j : Fin 16) : FVec F S32x2048 .f32 := fun i => resB m c ((rQ j).emb i)
/-- Gamma as one row: what the region stages. -/
def gamB (c : Dev nD) : FVec F S1x2048 .f32 := V₁ m c main_v1
/-- The partial chunk rounded: what goes across x. -/
def xv (c : Dev nD) (j : Fin 16) : FVec F S32x2048 .bf16 := k0_pay1 (partC m c j)
/-- Chunk `j` of the device's own result. -/
def ov (c : Dev nD) (j : Fin 16) : FVec F S32x2048 .f32 :=
  k0_pay19 (k0_pay18 (gamB m c)) (partC m c j) (xv m (xp c) j) (resC m c j)
/-- The same rounded: what is gathered. -/
def gv (c : Dev nD) (j : Fin 16) : FVec F S32x2048 .bf16 :=
  k0_pay20 (k0_pay18 (gamB m c)) (partC m c j) (xv m (xp c) j) (resC m c j)
/-- A gathered chunk widened. -/
def uv (c : Dev nD) (j : Fin 16) : FVec F S32x2048 .f32 := k0_pay62 (gv m c j)

end Cert.KernelIdeal.Run

end
-- ==== Proof.Sched.lean ====
module

public import proofs.«01_k».proof.Proof.Cells

/-! The schedule: what each cell's round is paid, the levels of the cells, and what a device owes. -/

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-! ## Payloads -/

/-- What device `c`'s cell of each kind is paid. -/
def pay (c : Dev nD) : Kd → sProp 𝕄
  | .pl j => iprop(ownsTc c (mPloc j) fullShare (partC m c j) ∗ ownsTc c (mPart (pOff (qo c) j)) fullShare (partC m c j))
  | .lc => iprop(ownsTc c aRloc fullShare (resB m c) ∗ ownsTc c (mRes (rOff (qo c))) fullShare (resB m c))
  | .xs j => ownsTc c (mPbf j) fullShare (xv m c j)
  | .xr j => ownsTc c (mRecv j) fullShare (xv m (xp c) j)
  | .ys j => ownsTc c (mGath (gOff (qo c) j)) fullShare.left (gv m c j)
  | .zs j => ownsTc c (mGath (gOff (qo c) j)) fullShare.right (gv m c j)
  | .yr j => ownsTc c (mGath (gOff (qy c) j)) fullShare (gv m (yp c) j)
  | .zr j => ownsTc c (mGath (gOff (qz c) j)) fullShare (gv m (zp c) j)
  | .fs j => ownsTc c (mGath (gOff (qz c) (lo j))) fullShare.left (gv m (zp c) (lo j))
  | .gs j => ownsTc c (mGath (gOff (qy c) (hi j))) fullShare.left (gv m (yp c) (hi j))
  | .fr j => ownsTc c (mGath (gOff (qd c) (lo j))) fullShare (gv m (zp (yp c)) (lo j))
  | .gr j => ownsTc c (mGath (gOff (qd c) (hi j))) fullShare (gv m (zp (yp c)) (hi j))

/-- A chunk of a peer's gathered array to write into, its cell of a kind open. -/
def slotG (p : Dev nD) (o : Off) (k : Kd) : sProp 𝕄 := iprop(ownsAny p (mGath o) ∗ reached ER (cell p k) 0)
/-- The same of the array received into across x. -/
def slotX (p : Dev nD) (j : Fin 16) : sProp 𝕄 := iprop(ownsAny p (mRecv j) ∗ reached ER (cell p (.xr j)) 0)

/-- What device `c`'s barrier cell is paid by the peer across each axis: the slots it may write at that peer. -/
def barPay (c : Dev nD) : Fin 3 → sProp 𝕄
  | 0 => sepL (fun j => slotX (xp c) j) L16
  | 1 => iprop(sepL (fun j => slotG (yp c) (gOff (qo c) j) (.yr j)) L16 ∗ sepL (fun j => slotG (yp c) (gOff (qz c) (lo j)) (.fr j)) L8)
  | 2 => iprop(sepL (fun j => slotG (zp c) (gOff (qo c) j) (.zr j)) L16 ∗ sepL (fun j => slotG (zp c) (gOff (qy c) (hi j)) (.gr j)) L8)

/-- The units a copy into a chunk brings. -/
def amt : Kd → ℕ
  | .pl j => (mPloc 0).view.dmaCredit
  | .lc => aRloc.view.dmaCredit
  | _ => (mRecv 0).view.dmaCredit

/-- Every copy moves something. -/
theorem amt_pos (k : Kd) : 0 < amt k := by
  cases k <;> exact View.dmaCredit_pos _ (by decide)

/-- The duties of a cell: three on a barrier, one on a copy's, in the first round only. -/
def duties (g : GSem nD τ sig) (r : ℕ) : Finset (Fin 3) :=
  if r = 0 ∧ g.1.2 = .tc then (match g.2 with | .reg _ => Finset.univ | .dma _ => {0}) else ∅

/-- The units of a duty: one for a signal, the copy's for a copy. -/
def amount (g : GSem nD τ sig) : ℕ :=
  match g.2 with | .reg _ => 1 | .dma s => (match dec s with | some k => amt k | none => 1)

/-- What a duty hands over. -/
def payload (g : GSem nD τ sig) (d : Fin 3) : sProp 𝕄 :=
  match g.2 with
  | .reg _ => barPay g.1.1 d
  | .dma s => (match dec s with | some k => pay m g.1.1 k | none => iprop(emp))

/-- A duty has units. -/
theorem amount_pos (g : GSem nD τ sig) : 0 < amount g := by
  unfold amount
  split
  · exact Nat.one_pos
  · split
    · exact amt_pos _
    · exact Nat.one_pos

/-- One round on every cell. -/
def Rd : Rounds.Schedule (GSem nD τ sig) (Fin 3) 𝕄 where
  duties := duties
  unitless _ := False
  amount g _ _ := amount g
  payload g _ d := payload m g d
  amount_pos g _ _ _ := amount_pos g

/-- A slot for a gathered chunk is storable. -/
instance slotG_storable (p : Dev nD) (o : Off) (k : Kd) : BI.Storable (upEmb : UEmb _ 𝕄) (slotG (F := F) p o k) := by
  unfold slotG; infer_instance
/-- A slot for an exchanged chunk is storable. -/
instance slotX_storable (p : Dev nD) (j : Fin 16) : BI.Storable (upEmb : UEmb _ 𝕄) (slotX (F := F) p j) := by
  unfold slotX; infer_instance
/-- What a copy hands over is storable. -/
instance pay_storable (c : Dev nD) (k : Kd) : BI.Storable (upEmb : UEmb _ 𝕄) (pay m c k) := by
  cases k <;> unfold pay <;> infer_instance
/-- What a signal hands over is storable. -/
instance barPay_storable (c : Dev nD) (d : Fin 3) : BI.Storable (upEmb : UEmb _ 𝕄) (barPay (F := F) c d) := by
  unfold barPay; split <;> infer_instance

/-- What any duty hands over is storable. -/
instance Rd_storable (g : GSem nD τ sig) (r : ℕ) (d : Fin 3) : BI.Storable (upEmb : UEmb _ 𝕄) ((Rd m).payload g r d) := by
  show BI.Storable upEmb (payload m g d)
  unfold payload
  (repeat' split) <;> infer_instance

section Facts

variable (c : Dev nD) (k : Kd)

/-- A copy's cell has one duty. -/
theorem duties_cell : (Rd m).duties (cell c k) 0 = {0} := by
  show Run.duties (cell c k) 0 = {0}
  unfold Run.duties; rw [if_pos ⟨rfl, rfl⟩]
/-- A barrier has three. -/
theorem duties_bar : (Rd m).duties (barCell c) 0 = Finset.univ := by
  show Run.duties (barCell c) 0 = Finset.univ
  unfold Run.duties; rw [if_pos ⟨rfl, rfl⟩]
/-- After the first round there is none. -/
theorem duties_later (g : GSem nD τ sig) : ∀ r, 1 ≤ r → (Rd m).duties g r = ∅ := fun r hr => by
  show Run.duties g r = ∅
  unfold Run.duties; rw [if_neg fun h => by omega]
/-- A copy's duty has the copy's units. -/
theorem amount_cell (r : ℕ) (d : Fin 3) : (Rd m).amount (cell c k) r d = amt k := by
  show Run.amount (cell c k) = amt k
  unfold Run.amount; dsimp only; rw [dec_sm]
/-- A signal is one unit. -/
theorem amount_bar (r : ℕ) (d : Fin 3) : (Rd m).amount (barCell c) r d = 1 := rfl
/-- A copy's cell awaits the copy's units. -/
theorem expect_cell : (Rd m).expect (cell c k) 0 = amt k := by
  unfold Schedule.expect Schedule.amountOf; rw [duties_cell, Finset.sum_singleton, amount_cell]
/-- A barrier awaits three. -/
theorem expect_bar : (Rd m).expect (barCell c) 0 = 3 := by
  unfold Schedule.expect Schedule.amountOf
  rw [duties_bar, Finset.sum_congr rfl fun d _ => amount_bar m c 0 d]; rfl
/-- A copy's duty hands over what its kind does. -/
theorem payload_cell (r : ℕ) (d : Fin 3) : (Rd m).payload (cell c k) r d = pay m c k := by
  show Run.payload m (cell c k) d = pay m c k
  unfold Run.payload; dsimp only; rw [dec_sm]
/-- A signal hands over the peer's receive buffers. -/
theorem payload_bar (r : ℕ) (d : Fin 3) : (Rd m).payload (barCell c) r d = barPay c d := rfl
/-- All that a copy's cell hands over. -/
theorem rest_cell : bigSep ((Rd m).duties (cell c k) 0 \ ∅) (fun d => (Rd m).payload (cell c k) 0 d) = pay m c k := by
  rw [Finset.sdiff_empty, duties_cell, bigSep_singleton, payload_cell]
/-- All that a barrier hands over. -/
theorem rest_bar : bigSep ((Rd m).duties (barCell c) 0 \ ∅) (fun d => (Rd m).payload (barCell c) 0 d)
    = sepL (barPay (F := F) c) [0, 1, 2] := by
  rw [Finset.sdiff_empty, duties_bar]
  exact bigSep_univ_list (fun d => barPay (F := F) c d) [0, 1, 2] (by decide) (by decide)

end Facts

/-! ## Levels and debts -/

/-- The level of a kind: what it waits on comes after what is paid without waiting on it. -/
def lvK : Kd → ℕ
  | .xr _ => 2 | .yr _ => 3 | .zr _ => 3 | .fr _ => 4 | .gr _ => 4 | _ => 0

/-- Every cell of a device's core has a level. -/
def L (g : GSem nD τ sig) : Finset Unit := if g.1.2 = .tc then {()} else ∅
/-- A cell's level. -/
def lv (g : GSem nD τ sig) (_ : Unit) : ℕ :=
  match g.2 with | .reg _ => 1 | .dma s => (match dec s with | some k => lvK k | none => 0)

/-- No other cell has a level. -/
theorem L_of_ne (g : GSem nD τ sig) (h : g.1.2 ≠ .tc) : L g = ∅ := if_neg h
/-- Every cell of a device's core has one level. -/
theorem L_tc (c : Dev nD) (s : SemLoc sig) : L ((c : Thread nD τ), s) = {()} := if_pos rfl
/-- The level of a copy's cell is its kind's. -/
theorem lv_cell (c : Dev nD) (k : Kd) (u : Unit) : lv (cell c k) u = lvK k := by
  unfold lv; dsimp only; rw [dec_sm]

/-- A debt: a unit on a peer's barrier cell, or the units of a copy into a peer's chunk. -/
inductive Db
  | b (i : Fin 3) | k (k : Kd)
  deriving DecidableEq

/-- The peer across each axis. -/
def peer : Fin 3 → Dev nD → Dev nD | 0 => xp | 1 => yp | 2 => zp
/-- The device a kind of copy goes to. -/
def dstK : Kd → Dev nD → Dev nD
  | .xr _ => xp | .yr _ => yp | .fr _ => yp | .zr _ => zp | .gr _ => zp | _ => id

/-- The cell a debt is owed on, its units, its level. -/
def tgt (c : Dev nD) : Db → GSem nD τ sig | .b i => barCell (peer i c) | .k k => cell (dstK k c) k
/-- The units of a debt. -/
def dAmt : Db → ℕ | .b _ => 1 | .k k => amt k
/-- The level of a debt. -/
def dLv : Db → ℕ | .b _ => 1 | .k k => lvK k

/-- The cell a debt is owed on has a level. -/
theorem L_tgt (c : Dev nD) (x : Db) : L (tgt c x) = {()} := by cases x <;> exact if_pos rfl
/-- That level is the debt's. -/
theorem lv_tgt (c : Dev nD) (x : Db) (u : Unit) : lv (tgt c x) u = dLv x := by
  cases x
  · rfl
  · exact lv_cell _ _ _

/-- What device `c` owes along a list of debts. -/
def Ol (c : Dev nD) : List Db → CellTallies nD τ sig Unit
  | [] => 0
  | x :: l => Ol c l + tallyAt (tgt c x) () (dAmt x)

/-- What is owed on a cell is owed by a debt of the list. -/
theorem Ol_pos (c : Dev nD) (g : GSem nD τ sig) (u : Unit) : ∀ l : List Db, 0 < Ol c l g u → ∃ x ∈ l, g = tgt c x
  | [], h => absurd h (Nat.lt_irrefl 0)
  | x :: l, h => by
    rcases Pipeline.add_pos_cases h with h | h
    · obtain ⟨y, hy, e⟩ := Ol_pos c g u l h
      exact ⟨y, List.mem_cons_of_mem _ hy, e⟩
    · exact ⟨x, List.mem_cons_self, (Pipeline.tallyAt_pos h).1⟩

/-- A wait on one's own cell, every debt at a higher level. -/
theorem mayWait (c : Dev nD) (s : SemLoc sig) (l : List Db) (h : ∀ x ∈ l, lv ((c : Thread nD τ), s) () < dLv x) :
    (levAts L lv : sProp 𝕄) ⊢ MayWait (c : Thread nD τ) s () (Ol c l) :=
  Pipeline.mayWait_of_levAts (by rw [L_tc]; exact Finset.mem_singleton_self _) fun g u hg => by
    obtain ⟨x, hx, rfl⟩ := Ol_pos c g u l hg
    exact ⟨by rw [L_tgt]; exact Finset.mem_singleton_self _, by rw [lv_tgt]; exact h x hx⟩

/-- The debts of the body, in the order it pays them. -/
def DL : List Db :=
  [.b 0, .b 1, .b 2] ++ (L16.flatMap (fun j => [.k (.xr j)]) ++ (L16.flatMap (fun j => [.k (.yr j), .k (.zr j)])
    ++ (L8.flatMap (fun j => [.k (.fr j)]) ++ (L8.flatMap (fun j => [.k (.gr j)]) ++ []))))

/-- What device `c` owes, whatever it has waited on. -/
def ow (c : Dev nD) (l : List Db) : sProp 𝕄 := iprop(∃ W, owes (c : Thread nD τ) (Ol c l) W)

/-! ## What every step may use -/

/-- The cells that are open at launch, and those a body opens. -/
def barCells : Finset (GSem nD τ sig) := Finset.univ.map ⟨barCell, fun c d h => by
  have := congrArg (fun g : GSem nD τ sig => g.1.1) h; exact this⟩
/-- The cells of all copies. -/
def scCells : Finset (GSem nD τ sig) := Finset.univ.map ⟨fun x : Dev nD × Kd => cell x.1 x.2, fun x y h => by
  have h1 : x.1 = y.1 := congrArg (fun g : GSem nD τ sig => g.1.1) h
  have h2 : SemLoc.dma (sm x.2) = .dma (sm y.2) := congrArg (fun g : GSem nD τ sig => g.2) h
  exact Prod.ext h1 (sm_inj (SemLoc.dma.inj h2))⟩

/-- A device's barrier is a barrier cell. -/
theorem bar_mem (c : Dev nD) : barCell c ∈ barCells := Finset.mem_map.mpr ⟨c, Finset.mem_univ _, rfl⟩
/-- A copy's cell is one of the copies'. -/
theorem sc_mem (c : Dev nD) (k : Kd) : cell c k ∈ scCells := Finset.mem_map.mpr ⟨(c, k), Finset.mem_univ _, rfl⟩
/-- No cell is both. -/
theorem disjoint_cells : Disjoint barCells scCells := by
  rw [Finset.disjoint_left]
  intro g h h'
  obtain ⟨c, -, rfl⟩ := Finset.mem_map.mp h
  obtain ⟨x, -, e⟩ := Finset.mem_map.mp h'
  have := congrArg (fun g : GSem nD τ sig => g.2) e
  cases this

/-- The cells' invariants, and that the barrier cells are open. -/
def records (κ : GSem nD τ sig → ℕ) : sProp 𝕄 :=
  iprop((bigSep (barCells ∪ scCells) fun g => cellInv ER (Rd m) (κ g) g) ∗ bigSep barCells fun g => reached ER g 0)

/-- The records may be used again and again. -/
instance records_persistent (κ : GSem nD τ sig → ℕ) : BI.Persistent (records m κ) := by unfold records; infer_instance

/-- The records have every copy's cell. -/
theorem records_cell (κ : GSem nD τ sig → ℕ) (c : Dev nD) (k : Kd) :
    records m κ ⊢ cellInv ER (Rd m) (κ (cell c k)) (cell c k) := by
  unfold records
  exact Laws.sep_elim_left.trans (bigSep_elim (Finset.mem_union_right _ (sc_mem c k)))
/-- The records have every barrier. -/
theorem records_bar (κ : GSem nD τ sig → ℕ) (c : Dev nD) :
    records m κ ⊢ cellInv ER (Rd m) (κ (barCell c)) (barCell c) := by
  unfold records
  exact Laws.sep_elim_left.trans (bigSep_elim (Finset.mem_union_left _ (bar_mem c)))
/-- Every barrier's first round has begun. -/
theorem records_reached (κ : GSem nD τ sig → ℕ) (c : Dev nD) : records m κ ⊢ reached ER (barCell c) 0 := by
  unfold records
  exact Laws.sep_elim_right.trans (bigSep_elim (bar_mem c))

/-- What every step may use: the levels, the cells' invariants, that the barrier cells are open, and that one's own cells are. -/
def ctx (κ : GSem nD τ sig → ℕ) (c : Dev nD) : sProp 𝕄 :=
  iprop(levAts L lv ∗ records m κ ∗ bigSep Finset.univ fun k => reached ER (cell c k) 0)

/-- So may the context. -/
instance ctx_persistent (κ : GSem nD τ sig → ℕ) (c : Dev nD) : BI.Persistent (ctx m κ c) := by unfold ctx; infer_instance

/-- The context has the levels. -/
theorem ctx_lev (κ : GSem nD τ sig → ℕ) (c : Dev nD) : ctx m κ c ⊢ levAts L lv := by
  unfold ctx; exact Laws.sep_elim_left
/-- The context has the records. -/
theorem ctx_records (κ : GSem nD τ sig → ℕ) (c : Dev nD) : ctx m κ c ⊢ records m κ := by
  unfold ctx; exact Laws.sep_elim_right.trans Laws.sep_elim_left
/-- Every copy's first round has begun. -/
theorem ctx_reached (κ : GSem nD τ sig → ℕ) (c : Dev nD) (k : Kd) : ctx m κ c ⊢ reached ER (cell c k) 0 := by
  unfold ctx; exact Laws.sep_elim_right.trans (Laws.sep_elim_right.trans (bigSep_elim (Finset.mem_univ k)))

end Cert.KernelIdeal.Run

end
-- ==== Proof.Ops.lean ====
module

public import proofs.«01_k».proof.Proof.Sched

/-! The operations on owned chunks: loads, stores, copies, sends and waits at a kind of cell. -/

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-- Running a program of the kernel on device `c`. -/
abbrev vs : Variants := Variants.none
/-- Running a program of the kernel on device `c`, to the postcondition `Q`. -/
abbrev W (c : Dev nD) (k : P F) (Q : PUnit → sProp 𝕄) : sProp 𝕄 :=
  wp frame (wpE (defs₀ (F := F)) vs (c : Thread nD τ) none) Set.univ k Q

/-- The credit of a cell's round; its duty's token; the owner's position in it before and after its round. -/
def crd (c : Dev nD) (k : Kd) : sProp 𝕄 := cred (tallyAt (cell c k) () (amt k))
/-- The token of a cell's duty. -/
def tok (c : Dev nD) (k : Kd) : sProp 𝕄 := dutyTok ER (cell c k) 0 0
/-- The owner's position in it before its round. -/
def at0 (c : Dev nD) (k : Kd) : sProp 𝕄 := atPos ER (cell c k) 0 ∅ 0
/-- The owner's position in it after its round. -/
def at1 (c : Dev nD) (k : Kd) : sProp 𝕄 := atPos ER (cell c k) 1 ∅ 0

variable (κ : GSem nD τ sig → ℕ) (c : Dev nD) (Q : PUnit.{1} → sProp (MT nD τ sig Unit (Elt F) ℕ UU ℕ))

/-! ## Loads and stores -/

section Mem
variable {cs : CoreSpace} {sh : Shape} {e : EltTy}

/-- Owning a memref at what it reads of `f` is its elements at `f`. -/
theorem owns_read {sp : Space} (a : Memref sig .tc sp sh e) (q : PosShare TreeShare) (f : a.view.ty.Contents (Elt F)) :
    (ownsTc c a q (a.view.read (Elt F) f) : sProp 𝕄) = (a.view.loc (c : Thread nD τ) ↦[a.view.set]{q} f) := by
  have h₁ : (ownsTc c a q (a.view.read (Elt F) f) : sProp 𝕄) ⊢ (a.view.loc (c : Thread nD τ) ↦[a.view.set]{q} f) := by
    unfold ownsTc owns
    iintro ⟨%g, %hg, H⟩
    have e : (a.view.loc (c : Thread nD τ) ↦[a.view.set]{q} g : sProp 𝕄) = (a.view.loc (c : Thread nD τ) ↦[a.view.set]{q} f) :=
      pointsTo_congr fun i hi => by
        rw [View.set, Finset.mem_map] at hi
        obtain ⟨x, -, rfl⟩ := hi
        have := congrFun hg x
        simp only [View.read] at this
        exact (cast_inj _).mp this
    rw [← e]; iexact H
  exact BI.equiv_iff.mp ⟨h₁, owns_intro _ _ _ _⟩

/-- A load through an owned chunk. -/
theorem loadS (a : Memref sig .tc cs sh e) (r : Rect sh) (hr : ∀ b, r.stride b = 1) (q : PosShare TreeShare)
    (X : r.shape.Idx → Elt F e) {hl : a.view.LoadsAt r.toLoadRect} {k : (r.toLoadRect.shape.Idx → Elt F e) → P F} :
    iprop(ownsTc c (a.slice r hr) q X ∗ (ownsTc c (a.slice r hr) q X -∗ W c (k X) Q)) ⊢ W c (.op (.load a r.toLoadRect hl) k) Q := by
  iintro ⟨H, Hk⟩
  ihave H' := (show ownsTc c (a.slice r hr) q X ⊢ iprop(∃ g, ⌜(a.slice r hr).view.read (Elt F) g = X⌝
    ∗ (a.slice r hr).view.loc (c : Thread nD τ) ↦[(a.slice r hr).view.set]{q} g) from .rfl) $$ H
  icases H' with ⟨%f, %hf, H⟩
  iapply (wp_load_rect vs (c : Thread nD τ) none Set.univ (m := a) (r := r) (hl := hl) (k := k) (q := q) (f := f)
    (S := (a.access r).set) (Finset.Subset.refl _)) $$ H
  iintro H
  have e : (a.access r).read (Elt F) f = X := hf
  rw [e]
  iapply Hk
  subst hf
  iapply (owns_intro (c : Thread nD τ) (a.slice r hr) q f); iexact H

/-- A load of a part of an owned memref. -/
theorem loadP (a : Memref sig .tc cs sh e) (r : Rect sh) (q : PosShare TreeShare)
    (X : sh.Idx → Elt F e) {hl : a.view.LoadsAt r.toLoadRect} {k : (r.toLoadRect.shape.Idx → Elt F e) → P F} :
    iprop(ownsTc c a q X ∗ (ownsTc c a q X -∗ W c (k fun i => X (r.emb i)) Q)) ⊢ W c (.op (.load a r.toLoadRect hl) k) Q := by
  iintro ⟨H, Hk⟩
  ihave H' := (show ownsTc c a q X ⊢ iprop(∃ g, ⌜a.view.read (Elt F) g = X⌝
    ∗ a.view.loc (c : Thread nD τ) ↦[a.view.set]{q} g) from .rfl) $$ H
  icases H' with ⟨%f, %hf, H⟩
  iapply (wp_load_rect vs (c : Thread nD τ) none Set.univ (m := a) (r := r) (hl := hl) (k := k) (q := q) (f := f)
    (S := a.view.set) (View.set_slice_subset _ _)) $$ H
  iintro H
  subst hf
  ihave H := (owns_intro (c : Thread nD τ) a q f) $$ H
  iapply Hk
  iexact H

/-- A store over an owned chunk. -/
theorem storeS (a : Memref sig .tc cs sh e) (r : Rect sh) (hr : ∀ b, r.stride b = 1) (w : r.shape.Idx → Elt F e)
    {hx : (a.access r).Stores Finset.univ} {hm : Finset.univ = Finset.univ ∨ ∀ b, r.stride b = 1} {k : PUnit → P F}
    (X : r.shape.Idx → Elt F e) :
    iprop(ownsTc c (a.slice r hr) fullShare X ∗ (ownsTc c (a.slice r hr) fullShare w -∗ W c (k ⟨⟩) Q))
      ⊢ W c (.op (.store a r w Finset.univ hx hm) k) Q := by
  iintro ⟨H, Hk⟩
  ihave H' := (show ownsTc c (a.slice r hr) fullShare X ⊢ iprop(∃ g, ⌜(a.slice r hr).view.read (Elt F) g = X⌝
    ∗ (a.slice r hr).view.loc (c : Thread nD τ) ↦[(a.slice r hr).view.set]{fullShare} g) from .rfl) $$ H
  icases H' with ⟨%f, -, H⟩
  iapply (wp_store vs (c : Thread nD τ) none Set.univ (m := a) (r := r) (w := w) (hx := hx) (hm := hm) (k := k) (f := f)
    (S := (a.access r).set) (View.setOn_subset_set _ _)) $$ H
  iintro H
  iapply Hk
  have e : (a.slice r hr).view.read (Elt F) ((a.access r).write (Elt F) f w Finset.univ) = w := View.read_write_univ _ _
  have h := owns_intro (Ix := Unit) (Name := ℕ) (U := UU) (Lvl := ℕ) (c : Thread nD τ) (a.slice r hr) fullShare ((a.access r).write (Elt F) f w Finset.univ)
  rw [e] at h
  iapply h; iexact H

end Mem

/-! ## Copies, sends and waits at a kind -/

section Dma
variable {sp sp' : Space} {sh sh' : Shape} {e e' : EltTy}

/-- A copy's cell has one duty. -/
theorem own_mem (d : Dev nD) (k : Kd) : (0 : Fin 3) ∈ (Rd m).duties (cell d k) 0 := by
  rw [duties_cell]; exact Finset.mem_singleton_self _

/-- Start a copy on the device, of a chunk owned at `X` over a chunk owned. -/
theorem copyK (kd : Kd) (src : Memref sig .tc sp sh e) (dst : Memref sig .tc sp' sh e) (q : PosShare TreeShare)
    (X : sh.Idx → Elt F e) {hsrc : src.view.WordExact} {hdst : dst.view.WordExact}
    {hsem : DmaTarget.Typed (nD := nD) (τ := τ) (p := .tc) sp (.dma (sm kd)) (.here dst)} {k : PUnit → P F}
    (hN : dst.view.amount (.dma (sm kd)) = amt kd)
    (hpay : iprop(ownsTc c dst fullShare X ∗ ownsTc c src q X) ⊢ pay m c kd) :
    iprop(ctx m κ c ∗ ownsTc c src q X ∗ ownsAny c dst ∗ tok c kd ∗ (crd c kd -∗ W c (k ⟨⟩) Q))
      ⊢ W c (.op (.enqueueDma src (.here dst) (.dma (sm kd)) hsrc hdst hsem) k) Q := by
  unfold ownsAny ownsTc owns crd tok
  iintro ⟨#Hctx, ⟨%fs, %hfs, Hs⟩, ⟨%Y, %fd, -, Hd⟩, Ht, Hk⟩
  iapply (Rounds.wp_copy_pointsTo vs ER (Rd m) (c : Thread nD τ) none (src := src) (dst := dst) (sem := .dma (sm kd)) (q := q)
      (fs := fs) (fd := fd) (r := 0) (d := 0) (κ := κ (cell c kd)) (own_mem m c kd) () (amt kd) hN (amount_cell m c kd 0 0)
      (by
        rw [payload_cell]
        refine (BIClass.sep_mono ?_ ?_).trans hpay
        · have h := owns_intro (Ix := Unit) (Name := ℕ) (U := UU) (Lvl := ℕ) (c : Thread nD τ) dst fullShare
            (dst.view.write (Elt F) fd (src.view.read (Elt F) fs) Finset.univ)
          rw [View.read_write_univ] at h
          rw [← hfs]; exact h
        · have h := owns_intro (Ix := Unit) (Name := ℕ) (U := UU) (Lvl := ℕ) (c : Thread nD τ) src q fs
          rw [hfs] at h
          exact h)) $$ [Hs Hd Ht]
  · isplitr; · iapply (records_cell m κ c kd); iapply (ctx_records m κ c); iexact Hctx
    isplitl [Hs]; · iexact Hs
    isplitl [Hd]; · iexact Hd
    isplitl [Ht]; · iexact Ht
    iapply (ctx_reached m κ c kd); iexact Hctx
  iexact Hk

/-- Send a chunk owned at `X` over a chunk of the peer's, paying the debt at the head of the list. -/
theorem sendK (ks kr : Kd) (p : Dev nD) (hp : dstK kr c = p) (src : Memref sig .tc sp sh e) (dst : Memref sig .tc sp' sh e)
    (q : PosShare TreeShare) (X : sh.Idx → Elt F e) {hsc : dst.view.ref.isScScratch = false}
    {hsrc : src.view.WordExact} {hdst : dst.view.WordExact}
    {hsem : DmaTarget.Typed (nD := nD) (τ := τ) (p := .tc) sp (.dma (sm kr)) (.remote (Dev.tc p) dst (.dma (sm ks)) hsc)} {k : PUnit → P F}
    (hN : dst.view.amount (.dma (sm kr)) = amt kr) (he : amt ks = amt kr)
    (hpay₁ : ownsTc c src q X ⊢ pay m c ks) (hpay₂ : ownsTc p dst fullShare X ⊢ pay m p kr) (T : List Db) :
    iprop(ctx m κ c ∗ ownsTc c src q X ∗ ownsAny p dst ∗ reached ER (cell p kr) 0 ∗ tok c ks ∗ tok p kr ∗ ow c (.k kr :: T)
        ∗ (crd c ks ∗ ow c T -∗ W c (k ⟨⟩) Q))
      ⊢ W c (.op (.enqueueDma src (.remote (Dev.tc p) dst (.dma (sm ks)) hsc) (.dma (sm kr)) hsrc hdst hsem) k) Q := by
  unfold ownsAny ownsTc owns crd tok ow
  iintro ⟨#Hctx, ⟨%fs, %hfs, Hs⟩, ⟨%Y, %fd, -, Hd⟩, #Hr, Ht, Htp, ⟨%Wt, HO⟩, Hk⟩
  iapply (Rounds.wp_send_pointsTo vs ER (Rd m) (c : Thread nD τ) none (c' := (p : Thread nD τ)) (src := src) (dst := dst)
      (sS := .dma (sm ks)) (sem := .dma (sm kr)) (q := q) (fs := fs) (κ₁ := κ (cell c ks)) (κ₂ := κ (cell p kr))
      (r₁ := 0) (r₂ := 0) (d₁ := 0) (d₂ := 0) (fd := fd) (own_mem m c ks) (own_mem m p kr) () () (amt kr) hN
      ((amount_cell m c ks 0 0).trans he) (amount_cell m p kr 0 0) (Ol c T) (by subst hp; rfl) (W := Wt)
      (by
        rw [payload_cell]
        refine .trans ?_ hpay₁
        have h := owns_intro (Ix := Unit) (Name := ℕ) (U := UU) (Lvl := ℕ) (c : Thread nD τ) src q fs
        rw [hfs] at h
        exact h)
      (by
        rw [payload_cell]
        refine .trans ?_ hpay₂
        have h := owns_intro (Ix := Unit) (Name := ℕ) (U := UU) (Lvl := ℕ) (p : Thread nD τ) dst fullShare
          (dst.view.write (Elt F) fd (src.view.read (Elt F) fs) Finset.univ)
        rw [View.read_write_univ] at h
        rw [← hfs]; exact h)) $$ [Hs Hd Ht Htp HO]
  · isplitr; · iapply (records_cell m κ c ks); iapply (ctx_records m κ c); iexact Hctx
    isplitr; · iapply (records_cell m κ p kr); iapply (ctx_records m κ c); iexact Hctx
    isplitl [Hs]; · iexact Hs
    isplitl [Hd]; · iexact Hd
    isplitl [HO]; · iexact HO
    isplitl [Ht]; · iexact Ht
    isplitr; · iapply (ctx_reached m κ c ks); iexact Hctx
    isplitl [Htp]; · iexact Htp
    iexact Hr
  iintro ⟨Hc, HO⟩
  iapply Hk
  rw [he]
  isplitl [Hc]; · iexact Hc
  iexists Wt; iexact HO

/-- Wait for one's own cell of a kind, every debt at a higher level. -/
theorem waitK (kd : Kd) (src : Memref sig .tc sp' sh' e') (dst : Memref sig .tc sp sh e)
    {hsrc : src.view.WordExact} {hdst : dst.view.WordExact} {k : PUnit → P F}
    (hN : dst.view.dmaCredit = amt kd) (T : List Db) (hT : ∀ x ∈ T, lvK kd < dLv x) :
    iprop(ctx m κ c ∗ crd c kd ∗ at0 c kd ∗ ow c T ∗ (pay m c kd ∗ at1 c kd ∗ ow c T -∗ W c (k ⟨⟩) Q))
      ⊢ W c (.op (.waitDma2 (sm kd) src dst hsrc hdst) k) Q := by
  unfold crd at0 at1 ow
  iintro ⟨#Hctx, Hc, Hat, ⟨%Wt, HO⟩, Hk⟩
  iapply (Rounds.wp_wait_rest_token vs ER (Rd m) (c : Thread nD τ) none (κ := κ (cell c kd))
      (wpE_waitDma2_eq (src := src) (dst := dst) vs (c : Thread nD τ) none Set.univ) (Set.mem_univ _) () (O := Ol c T) (W := Wt)
      (R := 0) (m := 0) (T := ∅) ((Nat.zero_add _).trans (hN.trans (expect_cell m c kd).symm))) $$ [Hc HO Hat]
  · isplitr; · iapply (records_cell m κ c kd); iapply (ctx_records m κ c); iexact Hctx
    isplitl [Hc]; · rw [hN]; iexact Hc
    isplitl [HO]; · iexact HO
    isplitr
    · iapply (mayWait c (.dma (sm kd)) T fun x hx => by rw [lv_cell]; exact hT x hx)
      iapply (ctx_lev m κ c); iexact Hctx
    iexact Hat
  iintro ⟨HO, Hat, -, Hpay⟩
  ihave Hp := (Entails.of_eq (rest_cell m c kd)) $$ Hpay
  iapply Hk
  isplitl [Hp]; · iexact Hp
  isplitl [Hat]; · iexact Hat
  iexists (insert (SemLoc.dma (sm kd), ()) Wt); iexact HO

end Dma

/-! ## Loops -/

/-- A loop by its step: each takes `pre i` and pays `ks i`, and leaves `post i`; `G` is passed along. -/
theorem loopW {ι : Type} (f : ι → P F → P F) (n : ℕ) (ks : ι → List Db) (G : sProp 𝕄) (pre post : ι → sProp 𝕄)
    (step : ∀ i T k, (∀ x ∈ ks i ++ T, n < dLv x) →
      iprop(ctx m κ c ∗ G ∗ pre i ∗ ow c (ks i ++ T) ∗ (G ∗ post i ∗ ow c T -∗ W c k Q)) ⊢ W c (f i k) Q) :
    ∀ (l : List ι) (T : List Db) (k : P F), (∀ x ∈ l.flatMap ks ++ T, n < dLv x) →
      iprop(ctx m κ c ∗ G ∗ sepL pre l ∗ ow c (l.flatMap ks ++ T) ∗ (G ∗ sepL post l ∗ ow c T -∗ W c k Q)) ⊢ W c (loop f l k) Q
  | [], T, k, h => by
    unfold sepL loop
    iintro ⟨-, HG, -, HO, Hk⟩
    iapply Hk
    isplitl [HG]; · iexact HG
    isplitr; · iempintro
    iexact HO
  | i :: l, T, k, h => by
    have ih := loopW f n ks G pre post step l T k fun x hx => h x (by
      rw [List.flatMap_cons, List.append_assoc]; exact List.mem_append_right _ hx)
    have hs := step i (l.flatMap ks ++ T) (loop f l k) (by rw [← List.append_assoc, ← List.flatMap_cons]; exact h)
    unfold sepL loop
    iintro ⟨#Hctx, HG, ⟨Hp, Hps⟩, HO, Hk⟩
    rw [List.flatMap_cons, List.append_assoc]
    iapply hs
    isplitr; · iexact Hctx
    isplitl [HG]; · iexact HG
    isplitl [Hp]; · iexact Hp
    isplitl [HO]; · iexact HO
    iintro ⟨HG, Hq, HO⟩
    iapply ih
    isplitr; · iexact Hctx
    isplitl [HG]; · iexact HG
    isplitl [Hps]; · iexact Hps
    isplitl [HO]; · iexact HO
    iintro ⟨HG, Hqs, HO⟩
    iapply Hk
    isplitl [HG]; · iexact HG
    isplitl [Hq Hqs]
    · isplitl [Hq]; · iexact Hq
      iexact Hqs
    iexact HO

end Cert.KernelIdeal.Run

end
-- ==== Proof.Steps.lean ====
module

public import proofs.«01_k».proof.Proof.Ops

/-! Each phase's step, for one chunk: what it takes and what it leaves. -/

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

local notation "𝕄" => MT nD τ sig Unit (Elt F) ℕ UU ℕ

variable (m : (ℓ : Loc nD τ sig) → Buf (Elt F) ℓ)
variable (κ : GSem nD τ sig → ℕ) (c : Dev nD) (Q : PUnit.{1} → sProp (MT nD τ sig Unit (Elt F) ℕ UU ℕ))

/-- A chunk of the output. -/
abbrev mOut (o : Off) : Memref sig .tc .vmem S32x2048 .f32 := aOut.slice o.rect (fun _ => rfl)

/-! ## The local copies -/

/-- Starting the local copy of a chunk of the partial array. -/
theorem copyInW (j : Fin 16) (k : P F) :
    iprop(ctx m κ c ∗ ownsTc c (mPart (pOff (qo c) j)) fullShare (partC m c j) ∗ ownsAny c (mPloc j) ∗ tok c (.pl j)
        ∗ (crd c (.pl j) -∗ W c k Q)) ⊢ W c (copyIn (pOff (qo c)) j k) Q := by
  unfold copyIn
  exact copyK m κ c Q (.pl j) (mPart (pOff (qo c) j)) (mPloc j) fullShare (partC m c j) (k := fun _ => k) rfl (.rfl)

/-- Starting the local copy of the residual block. -/
theorem copyResW (k : P F) :
    iprop(ctx m κ c ∗ ownsTc c (mRes (rOff (qo c))) fullShare (resB m c) ∗ ownsAny c aRloc ∗ tok c .lc
        ∗ (crd c .lc -∗ W c k Q)) ⊢ W c (copyRes (rOff (qo c)) k) Q := by
  unfold copyRes
  exact copyK m κ c Q .lc (mRes (rOff (qo c))) aRloc fullShare (resB m c) (k := fun _ => k) rfl (.rfl)

/-- Waiting for it. -/
theorem waitResW (T : List Db) (hT : ∀ x ∈ T, 0 < dLv x) (k : P F) :
    iprop(ctx m κ c ∗ crd c .lc ∗ at0 c .lc ∗ ow c T ∗ (pay m c .lc ∗ at1 c .lc ∗ ow c T -∗ W c k Q))
      ⊢ W c (waitRes (rOff (qo c)) k) Q := by
  unfold waitRes
  exact waitK m κ c Q .lc (mRes (rOff (qo c))) aRloc (k := fun _ => k) rfl T hT

/-! ## The barrier -/

/-- The block across z of the peer across y is the diagonal one. -/
theorem qz_yp (c : Dev nD) : qz (yp c) = qd c := (by decide +kernel : ∀ c : Dev nD, qz (yp c) = qd c) c
/-- The block across y of the peer across z is the diagonal one. -/
theorem qy_zp (c : Dev nD) : qy (zp c) = qd c := (by decide +kernel : ∀ c : Dev nD, qy (zp c) = qd c) c

/-- What is shared may be used for every item. -/
theorem sepL_with {M ι : Type} [URA M] {C : sProp M} [BI.Persistent C] {Φ Ψ : ι → sProp M} (h : ∀ i, iprop(C ∗ Φ i) ⊢ Ψ i) :
    ∀ l : List ι, iprop(C ∗ sepL Φ l) ⊢ sepL Ψ l
  | [] => by unfold sepL; iintro ⟨-, H⟩; iexact H
  | i :: l => by
    have ih := sepL_with h l
    unfold sepL
    iintro ⟨#HC, H, Hs⟩
    isplitl [H]
    · iapply (h i)
      isplitr; · iexact HC
      iexact H
    · iapply ih
      isplitr; · iexact HC
      iexact Hs

/-- A chunk of one's own with its cell open is a slot for a peer. -/
theorem give (o : Off) (k : Kd) : iprop(ctx m κ c ∗ ownsAny c (mGath o)) ⊢ slotG c o k := by
  unfold slotG
  iintro ⟨#Hctx, H⟩
  isplitl [H]; · iexact H
  iapply (ctx_reached m κ c k); iexact Hctx
/-- A receive chunk of one's own with its cell open is a slot for the peer across x. -/
theorem giveR (j : Fin 16) : iprop(ctx m κ c ∗ ownsAny c (mRecv j)) ⊢ slotX c j := by
  unfold slotX
  iintro ⟨#Hctx, H⟩
  isplitl [H]; · iexact H
  iapply (ctx_reached m κ c (.xr j)); iexact Hctx

/-- What the device gives the peer across each axis. -/
def gift (c : Dev nD) : Fin 3 → sProp 𝕄
  | 0 => sepL (fun j => ownsAny c (mRecv j)) L16
  | 1 => iprop(sepL (fun j => ownsAny c (mGath (gOff (qy c) j))) L16 ∗ sepL (fun j => ownsAny c (mGath (gOff (qd c) (lo j)))) L8)
  | 2 => iprop(sepL (fun j => ownsAny c (mGath (gOff (qz c) j))) L16 ∗ sepL (fun j => ownsAny c (mGath (gOff (qd c) (hi j)))) L8)

/-- The gift is what the signal to that peer hands over. -/
theorem gift_pay : ∀ i : Fin 3, iprop(ctx m κ c ∗ gift c i) ⊢ barPay (peer i c) i
  | 0 => by
    show iprop(ctx m κ c ∗ sepL (fun j => ownsAny c (mRecv j)) L16) ⊢ sepL (fun j => slotX (xp (xp c)) j) L16
    rw [xx]
    exact sepL_with (fun j => giveR m κ c j) L16
  | 1 => by
    show iprop(ctx m κ c ∗ sepL (fun j => ownsAny c (mGath (gOff (qy c) j))) L16 ∗ sepL (fun j => ownsAny c (mGath (gOff (qd c) (lo j)))) L8)
      ⊢ iprop(sepL (fun j => slotG (yp (yp c)) (gOff (qo (yp c)) j) (.yr j)) L16
          ∗ sepL (fun j => slotG (yp (yp c)) (gOff (qz (yp c)) (lo j)) (.fr j)) L8)
    rw [yy, qo_yp, qz_yp]
    iintro ⟨#Hctx, H, H'⟩
    isplitl [H]
    · iapply (sepL_with (fun j => give m κ c (gOff (qy c) j) (.yr j)) L16)
      isplitr; · iexact Hctx
      iexact H
    · iapply (sepL_with (fun j => give m κ c (gOff (qd c) (lo j)) (.fr j)) L8)
      isplitr; · iexact Hctx
      iexact H'
  | 2 => by
    show iprop(ctx m κ c ∗ sepL (fun j => ownsAny c (mGath (gOff (qz c) j))) L16 ∗ sepL (fun j => ownsAny c (mGath (gOff (qd c) (hi j)))) L8)
      ⊢ iprop(sepL (fun j => slotG (zp (zp c)) (gOff (qo (zp c)) j) (.zr j)) L16
          ∗ sepL (fun j => slotG (zp (zp c)) (gOff (qy (zp c)) (hi j)) (.gr j)) L8)
    rw [zz, qo_zp, qy_zp]
    iintro ⟨#Hctx, H, H'⟩
    isplitl [H]
    · iapply (sepL_with (fun j => give m κ c (gOff (qz c) j) (.zr j)) L16)
      isplitr; · iexact Hctx
      iexact H
    · iapply (sepL_with (fun j => give m κ c (gOff (qd c) (hi j)) (.gr j)) L8)
      isplitr; · iexact Hctx
      iexact H'

/-- A unit on a peer's barrier cell, with what it is given. -/
theorem signalW (i : Fin 3) (T : List Db) (k : PUnit → P F) :
    iprop(ctx m κ c ∗ gift c i ∗ dutyTok ER (barCell (peer i c)) 0 i ∗ ow c (.b i :: T) ∗ (ow c T -∗ W c (k ⟨⟩) Q))
      ⊢ W c (.op (.semSignal (peer i c, .tc) semB 1) k) Q := by
  unfold ow
  iintro ⟨#Hctx, Hg, Ht, ⟨%Wt, HO⟩, Hk⟩
  iapply (Rounds.wp_signal vs ER (Rd m) (c : Thread nD τ) none (dst := (peer i c : Thread nD τ)) (sem := semB) (r := 0) (d := i)
      (κ := κ (barCell (peer i c))) (by rw [duties_bar]; exact Finset.mem_univ i) (amount_bar m (peer i c) 0 i) () (Ol c T) rfl)
    $$ [HO Ht Hg]
  · isplitr; · iapply (records_bar m κ (peer i c)); iapply (ctx_records m κ c); iexact Hctx
    isplitl [HO]; · iexact HO
    isplitl [Ht]; · iexact Ht
    isplitl [Hg]
    · rw [payload_bar]; iapply (gift_pay m κ c i)
      isplitr; · iexact Hctx
      iexact Hg
    · iapply (records_reached m κ (peer i c)); iapply (ctx_records m κ c); iexact Hctx
  iintro HO
  iapply Hk
  iexists Wt; iexact HO

/-- The barrier: signal the three peers, giving each its gift, and wait for the three gifts of the peers. -/
theorem barrierW (T : List Db) (hT : ∀ x ∈ T, 1 < dLv x) (k : P F) :
    iprop(ctx m κ c ∗ sepL (gift c) [0, 1, 2] ∗ sepL (fun i => dutyTok ER (barCell (peer i c)) 0 i) [0, 1, 2]
        ∗ cred (tallyAt (barCell c) () 3) ∗ atPos ER (barCell c) 0 ∅ 0 ∗ ow c ([.b 0, .b 1, .b 2] ++ T)
        ∗ (sepL (barPay c) [0, 1, 2] ∗ atPos ER (barCell c) 1 ∅ 0 ∗ ow c T -∗ W c k Q))
      ⊢ W c (barrier (xp c) (yp c) (zp c) k) Q := by
  unfold barrier
  iintro ⟨#Hctx, Hg, Ht, Hc, Hat, HO, Hk⟩
  simp only [sepL]
  icases Hg with ⟨Hg0, Hg1, Hg2, -⟩
  icases Ht with ⟨Ht0, Ht1, Ht2, -⟩
  iapply (signalW m κ c Q 0 ([.b 1, .b 2] ++ T))
  isplitr; · iexact Hctx
  isplitl [Hg0]; · iexact Hg0
  isplitl [Ht0]; · iexact Ht0
  isplitl [HO]; · iexact HO
  iintro HO
  iapply (signalW m κ c Q 1 ([.b 2] ++ T))
  isplitr; · iexact Hctx
  isplitl [Hg1]; · iexact Hg1
  isplitl [Ht1]; · iexact Ht1
  isplitl [HO]; · iexact HO
  iintro HO
  iapply (signalW m κ c Q 2 T)
  isplitr; · iexact Hctx
  isplitl [Hg2]; · iexact Hg2
  isplitl [Ht2]; · iexact Ht2
  isplitl [HO]; · iexact HO
  unfold ow
  iintro ⟨%Wt, HO⟩
  iapply (Rounds.wp_wait_rest_token vs ER (Rd m) (c : Thread nD τ) none (κ := κ (barCell c))
      (wpE_semWait_eq vs (c : Thread nD τ) none Set.univ) (Set.mem_univ _) () (O := Ol c T) (W := Wt)
      (R := 0) (m := 0) (T := ∅) ((Nat.zero_add 3).trans (expect_bar m c).symm)) $$ [Hc HO Hat]
  · isplitr; · iapply (records_bar m κ c); iapply (ctx_records m κ c); iexact Hctx
    isplitl [Hc]; · iexact Hc
    isplitl [HO]; · iexact HO
    isplitr
    · iapply (mayWait c (.reg semB) T hT)
      iapply (ctx_lev m κ c); iexact Hctx
    iexact Hat
  iintro ⟨HO, Hat, -, Hpay⟩
  ihave Hp := (Entails.of_eq (rest_bar m c)) $$ Hpay
  simp only [sepL]
  iapply Hk
  isplitl [Hp]; · iexact Hp
  isplitl [Hat]; · iexact Hat
  iexists (insert (SemLoc.reg semB, ()) Wt); iexact HO

/-! ## Across x -/

/-- What sending chunk `j` across x takes, and leaves. -/
def preX (c : Dev nD) (j : Fin 16) : sProp 𝕄 :=
  iprop(crd c (.pl j) ∗ at0 c (.pl j) ∗ ownsAny c (mPbf j) ∗ slotX (xp c) j ∗ tok c (.xs j) ∗ tok (xp c) (.xr j))
/-- What sending chunk `j` across x leaves. -/
def postX (j : Fin 16) : sProp 𝕄 := iprop(pay m c (.pl j) ∗ at1 c (.pl j) ∗ crd c (.xs j))

/-- Waiting for the local copy of a chunk, narrowing it and sending it across x. -/
theorem stepXW (j : Fin 16) (T : List Db) (hT : ∀ x ∈ [Db.k (.xr j)] ++ T, 0 < dLv x) (k : P F) :
    iprop(ctx m κ c ∗ emp ∗ preX c j ∗ ow c ([.k (.xr j)] ++ T) ∗ (emp ∗ postX m c j ∗ ow c T -∗ W c k Q))
      ⊢ W c (stepX (pOff (qo c)) (xp c) j k) Q := by
  unfold stepX preX postX slotX
  iintro ⟨#Hctx, -, ⟨Hc, Hat, Hb, ⟨Hd, Hr⟩, Ht, Htp⟩, HO, Hk⟩
  iapply (waitK m κ c Q (.pl j) (mPart (pOff (qo c) j)) (mPloc j) rfl ([.k (.xr j)] ++ T) hT)
  isplitr; · iexact Hctx
  isplitl [Hc]; · iexact Hc
  isplitl [Hat]; · iexact Hat
  isplitl [HO]; · iexact HO
  iintro ⟨Hp, Hat, HO⟩
  unfold pay
  icases Hp with ⟨Hp, Hp'⟩
  iapply (loadS c Q aPloc (rQ j) (fun _ => rfl) fullShare (partC m c j))
  isplitl [Hp]; · iexact Hp
  iintro Hp
  unfold ownsAny
  icases Hb with ⟨%X, Hb⟩
  iapply (loadS c Q aPbf (rQ j) (fun _ => rfl) fullShare X)
  isplitl [Hb]; · iexact Hb
  iintro Hb
  iapply (storeS c Q aPbf (rQ j) (fun _ => rfl) (k0_pay1 (partC m c j)) X)
  isplitl [Hb]; · iexact Hb
  iintro Hb
  iapply (sendK m κ c Q (.xs j) (.xr j) (xp c) rfl (mPbf j) (mRecv j) fullShare (xv m c j) rfl rfl .rfl
    (by unfold pay; rw [xx]) T)
  isplitr; · iexact Hctx
  isplitl [Hb]; · iexact Hb
  isplitl [Hd]; · unfold ownsAny; iexact Hd
  isplitl [Hr]; · iexact Hr
  isplitl [Ht]; · iexact Ht
  isplitl [Htp]; · iexact Htp
  isplitl [HO]; · iexact HO
  iintro ⟨Hc, HO⟩
  iapply Hk
  isplitr; · iempintro
  isplitr [HO]
  · isplitl [Hp Hp']
    · isplitl [Hp]; · iexact Hp
      iexact Hp'
    isplitl [Hat]; · iexact Hat
    iexact Hc
  iexact HO

/-! ## The own result -/

/-- What computing chunk `j` takes, and leaves. -/
def preC (j : Fin 16) : sProp 𝕄 :=
  iprop(crd c (.xr j) ∗ at0 c (.xr j) ∗ ownsTc c (mPloc j) fullShare (partC m c j) ∗ ownsAny c (mGath (gOff (qo c) j))
    ∗ ownsAny c (mOut (gOff (qo c) j)) ∗ slotG (yp c) (gOff (qo c) j) (.yr j) ∗ slotG (zp c) (gOff (qo c) j) (.zr j)
    ∗ tok c (.ys j) ∗ tok c (.zs j) ∗ tok (yp c) (.yr j) ∗ tok (zp c) (.zr j))
/-- What computing chunk `j` leaves. -/
def postC (j : Fin 16) : sProp 𝕄 :=
  iprop(at1 c (.xr j) ∗ ownsTc c (mPloc j) fullShare (partC m c j) ∗ ownsTc c (mRecv j) fullShare (xv m (xp c) j)
    ∗ ownsTc c (mOut (gOff (qo c) j)) fullShare (ov m c j) ∗ crd c (.ys j) ∗ crd c (.zs j))

/-- Waiting for the peer's chunk, computing the own result, and sending it across y and z. -/
theorem stepCW (j : Fin 16) (T : List Db) (hT : ∀ x ∈ [Db.k (.yr j), .k (.zr j)] ++ T, 2 < dLv x) (k : P F) :
    iprop(ctx m κ c ∗ ownsTc c aRloc fullShare (resB m c) ∗ preC m c j ∗ ow c ([.k (.yr j), .k (.zr j)] ++ T)
        ∗ (ownsTc c aRloc fullShare (resB m c) ∗ postC m c j ∗ ow c T -∗ W c k Q))
      ⊢ W c (stepC (gOff (qo c)) (gOff (qo c)) (yp c) (zp c) (k0_pay18 (gamB m c)) j k) Q := by
  unfold stepC preC postC slotG sendG
  iintro ⟨#Hctx, HG, ⟨Hc, Hat, Hp, Hg, Ho, ⟨Hdy, Hry⟩, ⟨Hdz, Hrz⟩, Hty, Htz, Htyp, Htzp⟩, HO, Hk⟩
  iapply (waitK m κ c Q (.xr j) (mPbf j) (mRecv j) rfl ([.k (.yr j), .k (.zr j)] ++ T) hT)
  isplitr; · iexact Hctx
  isplitl [Hc]; · iexact Hc
  isplitl [Hat]; · iexact Hat
  isplitl [HO]; · iexact HO
  iintro ⟨Hx, Hat, HO⟩
  unfold pay
  iapply (loadS c Q aPloc (rQ j) (fun _ => rfl) fullShare (partC m c j))
  isplitl [Hp]; · iexact Hp
  iintro Hp
  iapply (loadS c Q aRecv (rQ j) (fun _ => rfl) fullShare (xv m (xp c) j))
  isplitl [Hx]; · iexact Hx
  iintro Hx
  iapply (loadP c Q aRloc (rQ j) fullShare (resB m c))
  isplitl [HG]; · iexact HG
  iintro HG
  unfold ownsAny
  icases Hg with ⟨%X, Hg⟩
  icases Ho with ⟨%Y, Ho⟩
  iapply (loadS c Q aGath (gOff (qo c) j).rect (fun _ => rfl) fullShare X)
  isplitl [Hg]; · iexact Hg
  iintro Hg
  iapply (storeS c Q aGath (gOff (qo c) j).rect (fun _ => rfl) (gv m c j) X)
  isplitl [Hg]; · iexact Hg
  iintro Hg
  ihave Hh := (owns_halves (c : Thread nD τ) (mGath (gOff (qo c) j)) fullShare (gv m c j)).1 $$ Hg
  icases Hh with ⟨Hl, Hr⟩
  iapply (sendK m κ c Q (.ys j) (.yr j) (yp c) rfl (mGath (gOff (qo c) j)) (mGath (gOff (qo c) j)) fullShare.left (gv m c j) rfl rfl .rfl
    (by unfold pay; rw [qy_yp, yy]) ([.k (.zr j)] ++ T))
  isplitr; · iexact Hctx
  isplitl [Hl]; · iexact Hl
  isplitl [Hdy]; · unfold ownsAny; iexact Hdy
  isplitl [Hry]; · iexact Hry
  isplitl [Hty]; · iexact Hty
  isplitl [Htyp]; · iexact Htyp
  isplitl [HO]; · iexact HO
  iintro ⟨Hcy, HO⟩
  iapply (sendK m κ c Q (.zs j) (.zr j) (zp c) rfl (mGath (gOff (qo c) j)) (mGath (gOff (qo c) j)) fullShare.right (gv m c j) rfl rfl .rfl
    (by unfold pay; rw [qz_zp, zz]) T)
  isplitr; · iexact Hctx
  isplitl [Hr]; · iexact Hr
  isplitl [Hdz]; · unfold ownsAny; iexact Hdz
  isplitl [Hrz]; · iexact Hrz
  isplitl [Htz]; · iexact Htz
  isplitl [Htzp]; · iexact Htzp
  isplitl [HO]; · iexact HO
  iintro ⟨Hcz, HO⟩
  iapply (loadS c Q aOut (gOff (qo c) j).rect (fun _ => rfl) fullShare Y)
  isplitl [Ho]; · iexact Ho
  iintro Ho
  iapply (storeS c Q aOut (gOff (qo c) j).rect (fun _ => rfl) (ov m c j) Y)
  isplitl [Ho]; · iexact Ho
  iintro Ho
  iapply Hk
  isplitl [HG]; · iexact HG
  isplitr [HO]
  · isplitl [Hat]; · iexact Hat
    isplitl [Hp]; · iexact Hp
    isplitl [Hx]; · iexact Hx
    isplitl [Ho]; · iexact Ho
    isplitl [Hcy]; · iexact Hcy
    iexact Hcz
  iexact HO

/-! ## The gathered chunks -/

/-- A chunk of the gathered array widened into the output. -/
theorem upcastW (o : Off) (q : PosShare TreeShare) (X : FVec F S32x2048 .bf16) (k : P F) :
    iprop(ownsTc c (mGath o) q X ∗ ownsAny c (mOut o)
        ∗ (ownsTc c (mGath o) q X ∗ ownsTc c (mOut o) fullShare (k0_pay62 X) -∗ W c k Q)) ⊢ W c (upcast o k) Q := by
  unfold upcast ownsAny
  iintro ⟨Hg, ⟨%Y, Ho⟩, Hk⟩
  iapply (loadS c Q aGath o.rect (fun _ => rfl) q X)
  isplitl [Hg]; · iexact Hg
  iintro Hg
  iapply (loadS c Q aOut o.rect (fun _ => rfl) fullShare Y)
  isplitl [Ho]; · iexact Ho
  iintro Ho
  iapply (storeS c Q aOut o.rect (fun _ => rfl) (k0_pay62 X) Y)
  isplitl [Ho]; · iexact Ho
  iintro Ho
  iapply Hk
  isplitl [Hg]; · iexact Hg
  iexact Ho

/-- What waiting for a chunk, forwarding it and widening it takes, and leaves: the wait at kind `kw`, the send at `ks`, received
    by `p` at `kr`. -/
def preF (kw ks kr : Kd) (p : Dev nD) (o : Off) : sProp 𝕄 :=
  iprop(crd c kw ∗ at0 c kw ∗ ownsAny c (mOut o) ∗ slotG p o kr ∗ tok c ks ∗ tok p kr)
/-- What forwarding a chunk leaves. -/
def postF (kw ks : Kd) (o : Off) (X : FVec F S32x2048 .bf16) : sProp 𝕄 :=
  iprop(at1 c kw ∗ ownsTc c (mGath o) fullShare.right X ∗ ownsTc c (mOut o) fullShare (k0_pay62 X) ∗ crd c ks)

/-- Waiting for a chunk, sending it on from one half of its ownership, and widening it from the other. -/
theorem forwardW (kw ks kr : Kd) (p : Dev nD) (hp : dstK kr c = p) (o₀ o : Off) (X : FVec F S32x2048 .bf16)
    (h0 : (mGath o₀).view.dmaCredit = amt kw) (hN : (mGath o).view.amount (.dma (sm kr)) = amt kr) (he : amt ks = amt kr)
    (hw : pay m c kw ⊢ ownsTc c (mGath o) fullShare X)
    (h1 : ownsTc c (mGath o) fullShare.left X ⊢ pay m c ks) (h2 : ownsTc p (mGath o) fullShare X ⊢ pay m p kr)
    (T : List Db) (hT : ∀ x ∈ [Db.k kr] ++ T, lvK kw < dLv x) (k : P F) :
    iprop(ctx m κ c ∗ emp ∗ preF c kw ks kr p o ∗ ow c ([.k kr] ++ T) ∗ (emp ∗ postF c kw ks o X ∗ ow c T -∗ W c k Q))
      ⊢ W c (waitG o₀ (sm kw) (sendG o p (sm ks) (sm kr) (upcast o k))) Q := by
  unfold waitG sendG preF postF slotG
  iintro ⟨#Hctx, -, ⟨Hc, Hat, Ho, ⟨Hd, Hr⟩, Ht, Htp⟩, HO, Hk⟩
  iapply (waitK m κ c Q kw (mGath o₀) (mGath o₀) h0 ([.k kr] ++ T) hT)
  isplitr; · iexact Hctx
  isplitl [Hc]; · iexact Hc
  isplitl [Hat]; · iexact Hat
  isplitl [HO]; · iexact HO
  iintro ⟨Hx, Hat, HO⟩
  ihave Hx := hw $$ Hx
  ihave Hh := (owns_halves (c : Thread nD τ) (mGath o) fullShare X).1 $$ Hx
  icases Hh with ⟨Hl, Hrt⟩
  iapply (sendK m κ c Q ks kr p hp (mGath o) (mGath o) fullShare.left X hN he h1 h2 T)
  isplitr; · iexact Hctx
  isplitl [Hl]; · iexact Hl
  isplitl [Hd]; · iexact Hd
  isplitl [Hr]; · iexact Hr
  isplitl [Ht]; · iexact Ht
  isplitl [Htp]; · iexact Htp
  isplitl [HO]; · iexact HO
  iintro ⟨Hc, HO⟩
  iapply (upcastW c Q o fullShare.right X)
  isplitl [Hrt]; · iexact Hrt
  isplitl [Ho]; · iexact Ho
  iintro ⟨Hg, Ho⟩
  iapply Hk
  isplitr; · iempintro
  isplitr [HO]
  · isplitl [Hat]; · iexact Hat
    isplitl [Hg]; · iexact Hg
    isplitl [Ho]; · iexact Ho
    iexact Hc
  iexact HO

/-- A chunk received across z, forwarded across y. -/
theorem stepDW (j : Fin 8) (T : List Db) (hT : ∀ x ∈ [Db.k (.fr j)] ++ T, 3 < dLv x) (k : P F) :
    iprop(ctx m κ c ∗ emp ∗ preF c (.zr (lo j)) (.fs j) (.fr j) (yp c) (gOff (qz c) (lo j)) ∗ ow c ([.k (.fr j)] ++ T)
        ∗ (emp ∗ postF c (.zr (lo j)) (.fs j) (gOff (qz c) (lo j)) (gv m (zp c) (lo j)) ∗ ow c T -∗ W c k Q))
      ⊢ W c (stepD (gOff (qo c)) (gOff (qz c)) (fun j => gOff (qz c) (lo j)) (yp c) j k) Q := by
  unfold stepD
  exact forwardW m κ c Q (.zr (lo j)) (.fs j) (.fr j) (yp c) rfl (gOff (qo c) (lo j)) (gOff (qz c) (lo j)) (gv m (zp c) (lo j))
    rfl rfl rfl .rfl .rfl (by unfold pay; rw [qd_yp, yy]) T hT k

/-- A chunk received across y, forwarded across z. -/
theorem stepEW (j : Fin 8) (T : List Db) (hT : ∀ x ∈ [Db.k (.gr j)] ++ T, 3 < dLv x) (k : P F) :
    iprop(ctx m κ c ∗ emp ∗ preF c (.yr (hi j)) (.gs j) (.gr j) (zp c) (gOff (qy c) (hi j)) ∗ ow c ([.k (.gr j)] ++ T)
        ∗ (emp ∗ postF c (.yr (hi j)) (.gs j) (gOff (qy c) (hi j)) (gv m (yp c) (hi j)) ∗ ow c T -∗ W c k Q))
      ⊢ W c (stepE (gOff (qo c)) (gOff (qy c)) (fun j => gOff (qy c) (hi j)) (zp c) j k) Q := by
  unfold stepE
  exact forwardW m κ c Q (.yr (hi j)) (.gs j) (.gr j) (zp c) rfl (gOff (qo c) (hi j)) (gOff (qy c) (hi j)) (gv m (yp c) (hi j))
    rfl rfl rfl .rfl .rfl (by unfold pay; rw [qd_zp, zy, zz]) T hT k

/-- What waiting for a chunk and widening it takes, and leaves. -/
def preU (kw : Kd) (o : Off) : sProp 𝕄 := iprop(crd c kw ∗ at0 c kw ∗ ownsAny c (mOut o))
/-- What waiting for a chunk and widening it leaves. -/
def postU (kw : Kd) (o : Off) (X : FVec F S32x2048 .bf16) : sProp 𝕄 :=
  iprop(at1 c kw ∗ ownsTc c (mGath o) fullShare X ∗ ownsTc c (mOut o) fullShare (k0_pay62 X))

/-- Waiting for a chunk and widening it. -/
theorem stepUW (kw : Kd) (o₀ o : Off) (X : FVec F S32x2048 .bf16) (h0 : (mGath o₀).view.dmaCredit = amt kw)
    (hw : pay m c kw ⊢ ownsTc c (mGath o) fullShare X) (T : List Db) (hT : ∀ x ∈ [] ++ T, lvK kw < dLv x) (k : P F) :
    iprop(ctx m κ c ∗ emp ∗ preU c kw o ∗ ow c ([] ++ T) ∗ (emp ∗ postU c kw o X ∗ ow c T -∗ W c k Q))
      ⊢ W c (stepU o₀ o (sm kw) k) Q := by
  unfold stepU waitG preU postU
  iintro ⟨#Hctx, -, ⟨Hc, Hat, Ho⟩, HO, Hk⟩
  iapply (waitK m κ c Q kw (mGath o₀) (mGath o₀) h0 ([] ++ T) hT)
  isplitr; · iexact Hctx
  isplitl [Hc]; · iexact Hc
  isplitl [Hat]; · iexact Hat
  isplitl [HO]; · iexact HO
  iintro ⟨Hx, Hat, HO⟩
  ihave Hx := hw $$ Hx
  iapply (upcastW c Q o fullShare X)
  isplitl [Hx]; · iexact Hx
  isplitl [Ho]; · iexact Ho
  iintro ⟨Hg, Ho⟩
  iapply Hk
  isplitr; · iempintro
  isplitr [HO]
  · isplitl [Hat]; · iexact Hat
    isplitl [Hg]; · iexact Hg
    iexact Ho
  iexact HO

/-! ## The closing waits -/

/-- What a closing wait takes. -/
def preW (kw : Kd) : sProp 𝕄 := iprop(crd c kw ∗ at0 c kw)
/-- What a closing wait leaves. -/
def postW (kw : Kd) : sProp 𝕄 := iprop(pay m c kw ∗ at1 c kw)

/-- Waiting for a send across x to be over. -/
theorem waitSXW (j : Fin 16) (T : List Db) (hT : ∀ x ∈ [] ++ T, 0 < dLv x) (k : P F) :
    iprop(ctx m κ c ∗ emp ∗ preW c (.xs j) ∗ ow c ([] ++ T) ∗ (emp ∗ postW m c (.xs j) ∗ ow c T -∗ W c k Q))
      ⊢ W c (waitSX j k) Q := by
  unfold waitSX preW postW
  iintro ⟨#Hctx, -, ⟨Hc, Hat⟩, HO, Hk⟩
  iapply (waitK m κ c Q (.xs j) (mRecv j) (mPbf j) rfl ([] ++ T) hT)
  isplitr; · iexact Hctx
  isplitl [Hc]; · iexact Hc
  isplitl [Hat]; · iexact Hat
  isplitl [HO]; · iexact HO
  iintro ⟨Hx, Hat, HO⟩
  iapply Hk
  isplitr; · iempintro
  isplitl [Hx Hat]
  · isplitl [Hx]; · iexact Hx
    iexact Hat
  iexact HO

/-- Waiting for a send of a gathered chunk to be over. -/
theorem waitGW (kw : Kd) (o₀ : Off) (h0 : (mGath o₀).view.dmaCredit = amt kw) (T : List Db)
    (hT : ∀ x ∈ [] ++ T, lvK kw < dLv x) (k : P F) :
    iprop(ctx m κ c ∗ emp ∗ preW c kw ∗ ow c ([] ++ T) ∗ (emp ∗ postW m c kw ∗ ow c T -∗ W c k Q))
      ⊢ W c (waitG o₀ (sm kw) k) Q := by
  unfold waitG preW postW
  iintro ⟨#Hctx, -, ⟨Hc, Hat⟩, HO, Hk⟩
  iapply (waitK m κ c Q kw (mGath o₀) (mGath o₀) h0 ([] ++ T) hT)
  isplitr; · iexact Hctx
  isplitl [Hc]; · iexact Hc
  isplitl [Hat]; · iexact Hat
  isplitl [HO]; · iexact HO
  iintro ⟨Hx, Hat, HO⟩
  iapply Hk
  isplitr; · iempintro
  isplitl [Hx Hat]
  · isplitl [Hx]; · iexact Hx
    iexact Hat
  iexact HO

end Cert.KernelIdeal.Run

end
-- ==== Proof.Phases.lean ====
module

public import proofs.«01_k».proof.Proof.Steps

/-! The whole body: from what a device holds at its start to what it holds at its end. -/

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

local notation "𝕄" => MT nD τ sig Unit (Elt F) ℕ UU ℕ

variable (m : (ℓ : Loc nD τ sig) → Buf (Elt F) ℓ)
variable (κ : GSem nD τ sig → ℕ) (c : Dev nD) (Q : PUnit.{1} → sProp (MT nD τ sig Unit (Elt F) ℕ UU ℕ))

/-- A family over the kinds, kind by kind. -/
theorem bigK {M : Type} [URA M] (Φ : Kd → sProp M) : bigSep Finset.univ Φ
    = iprop(sepL (fun j => Φ (.pl j)) L16 ∗ (Φ .lc ∗ emp) ∗ sepL (fun j => Φ (.xs j)) L16 ∗ sepL (fun j => Φ (.xr j)) L16
      ∗ sepL (fun j => Φ (.ys j)) L16 ∗ sepL (fun j => Φ (.yr j)) L16 ∗ sepL (fun j => Φ (.zs j)) L16 ∗ sepL (fun j => Φ (.zr j)) L16
      ∗ sepL (fun j => Φ (.fs j)) L8 ∗ sepL (fun j => Φ (.fr j)) L8 ∗ sepL (fun j => Φ (.gs j)) L8 ∗ sepL (fun j => Φ (.gr j)) L8) := by
  rw [bigSep_univ_list Φ allK allK_nodup allK_mem]
  unfold allK
  simp only [sepL_append, sepL_map]
  rfl

/-- A loop that pays nothing. -/
theorem loop0W {ι : Type} (f : ι → P F → P F) (T : List Db) (pre post : ι → sProp 𝕄)
    (step : ∀ i k, iprop(ctx m κ c ∗ pre i ∗ ow c T ∗ (post i ∗ ow c T -∗ W c k Q)) ⊢ W c (f i k) Q) (l : List ι) (k : P F) :
    iprop(ctx m κ c ∗ sepL pre l ∗ ow c T ∗ (sepL post l ∗ ow c T -∗ W c k Q)) ⊢ W c (loop f l k) Q := by
  induction l with
  | nil =>
    unfold sepL loop
    iintro ⟨-, -, HO, Hk⟩
    iapply Hk
    isplitr; · iempintro
    iexact HO
  | cons i l ih =>
    unfold sepL loop
    iintro ⟨#Hctx, ⟨Hp, Hps⟩, HO, Hk⟩
    iapply (step i (loop f l k))
    isplitr; · iexact Hctx
    isplitl [Hp]; · iexact Hp
    isplitl [HO]; · iexact HO
    iintro ⟨Hq, HO⟩
    iapply ih
    isplitr; · iexact Hctx
    isplitl [Hps]; · iexact Hps
    isplitl [HO]; · iexact HO
    iintro ⟨Hqs, HO⟩
    iapply Hk
    isplitl [Hq Hqs]
    · isplitl [Hq]; · iexact Hq
      iexact Hqs
    iexact HO

/-- A step that threads nothing takes nothing more. -/
theorem emp_l {M : Type} [URA M] (A B C D : sProp M) (R X : sProp M) (h : iprop(A ∗ emp ∗ B ∗ C ∗ (emp ∗ D -∗ R)) ⊢ X) :
    iprop(A ∗ B ∗ C ∗ (D -∗ R)) ⊢ X := by
  refine .trans ?_ h
  iintro ⟨HA, HB, HC, HD⟩
  isplitl [HA]; · iexact HA
  isplitr; · iempintro
  isplitl [HB]; · iexact HB
  isplitl [HC]; · iexact HC
  iintro ⟨-, H⟩
  iapply HD; iexact H

/-! ## The phases -/

/-- What is owed before the forwards across z. -/
abbrev D4 : List Db := L8.flatMap (fun j => [.k (.gr j)]) ++ []
/-- What is owed before the forwards across y. -/
abbrev D3 : List Db := L8.flatMap (fun j => [.k (.fr j)]) ++ D4
/-- What is owed before the own results are sent. -/
abbrev D2 : List Db := L16.flatMap (fun j => [.k (.yr j), .k (.zr j)]) ++ D3
/-- What is owed before the exchange across x. -/
abbrev D1 : List Db := L16.flatMap (fun j => [.k (.xr j)]) ++ D2

/-- The family of a device's tokens: its own cells' where the device pays itself, its peers' where it pays them. -/
abbrev tk (c : Dev nD) (k : Kd) : sProp 𝕄 := tok (dstK k c) k

/-- What starting the local copies takes, and leaves. -/
def preI (j : Fin 16) : sProp 𝕄 :=
  iprop(ownsTc c (mPart (pOff (qo c) j)) fullShare (partC m c j) ∗ ownsAny c (mPloc j) ∗ tk c (.pl j))

/-- Starting the local copies of the partial array. -/
theorem phaseI (T : List Db) (k : P F) :
    iprop(ctx m κ c ∗ sepL (preI m c) L16 ∗ ow c T ∗ (sepL (fun j => crd c (.pl j)) L16 ∗ ow c T -∗ W c k Q))
      ⊢ W c (loop (copyIn (pOff (qo c))) L16 k) Q :=
  loop0W m κ c Q _ T _ _ (fun j k => by
    unfold preI
    iintro ⟨#Hctx, ⟨Ha, Hb, Ht⟩, HO, Hk⟩
    iapply (copyInW m κ c Q j k)
    isplitr; · iexact Hctx
    isplitl [Ha]; · iexact Ha
    isplitl [Hb]; · iexact Hb
    isplitl [Ht]; · iexact Ht
    iintro Hc
    iapply Hk
    isplitl [Hc]; · iexact Hc
    iexact HO) L16 k

/-- The sends across x: each waits for its local copy, narrows the chunk and sends it. -/
theorem phaseX (k : P F) :
    iprop(ctx m κ c ∗ sepL (preX c) L16 ∗ ow c D1 ∗ (sepL (postX m c) L16 ∗ ow c D2 -∗ W c k Q))
      ⊢ W c (loop (stepX (pOff (qo c)) (xp c)) L16 k) Q :=
  emp_l _ _ _ _ _ _ (loopW m κ c Q (stepX (pOff (qo c)) (xp c)) 0 (fun j => [.k (.xr j)]) iprop(emp) (preX c) (postX m c)
    (fun j T k h => stepXW m κ c Q j T h k) L16 D2 k (by decide))

/-- The own results: each waits for the peer's chunk, computes, and sends across y and z. -/
theorem phaseC (k : P F) :
    iprop(ctx m κ c ∗ ownsTc c aRloc fullShare (resB m c) ∗ sepL (preC m c) L16 ∗ ow c D2
        ∗ (ownsTc c aRloc fullShare (resB m c) ∗ sepL (postC m c) L16 ∗ ow c D3 -∗ W c k Q))
      ⊢ W c (loop (stepC (gOff (qo c)) (gOff (qo c)) (yp c) (zp c) (k0_pay18 (gamB m c))) L16 k) Q :=
  loopW m κ c Q (stepC (gOff (qo c)) (gOff (qo c)) (yp c) (zp c) (k0_pay18 (gamB m c))) 2 (fun j => [.k (.yr j), .k (.zr j)])
    (ownsTc c aRloc fullShare (resB m c)) (preC m c) (postC m c)
    (fun j T k h => stepCW m κ c Q j T h k) L16 D3 k (by decide)

/-- What forwarding across y takes. -/
abbrev preD (j : Fin 8) : sProp 𝕄 := preF c (.zr (lo j)) (.fs j) (.fr j) (yp c) (gOff (qz c) (lo j))
/-- What forwarding across y leaves. -/
abbrev postD (j : Fin 8) : sProp 𝕄 := postF c (.zr (lo j)) (.fs j) (gOff (qz c) (lo j)) (gv m (zp c) (lo j))
/-- What forwarding across z takes. -/
abbrev preE (j : Fin 8) : sProp 𝕄 := preF c (.yr (hi j)) (.gs j) (.gr j) (zp c) (gOff (qy c) (hi j))
/-- What forwarding across z leaves. -/
abbrev postE (j : Fin 8) : sProp 𝕄 := postF c (.yr (hi j)) (.gs j) (gOff (qy c) (hi j)) (gv m (yp c) (hi j))

/-- The chunks from across z, forwarded across y. -/
theorem phaseD (k : P F) :
    iprop(ctx m κ c ∗ sepL (preD c) L8 ∗ ow c D3 ∗ (sepL (postD m c) L8 ∗ ow c D4 -∗ W c k Q))
      ⊢ W c (loop (stepD (gOff (qo c)) (gOff (qz c)) (fun j => gOff (qz c) (lo j)) (yp c)) L8 k) Q :=
  emp_l _ _ _ _ _ _ (loopW m κ c Q (stepD (gOff (qo c)) (gOff (qz c)) (fun j => gOff (qz c) (lo j)) (yp c)) 3
    (fun j => [.k (.fr j)]) iprop(emp) (preD c) (postD m c)
    (fun j T k h => stepDW m κ c Q j T h k) L8 D4 k (by decide))

/-- The chunks from across y, forwarded across z. -/
theorem phaseE (k : P F) :
    iprop(ctx m κ c ∗ sepL (preE c) L8 ∗ ow c D4 ∗ (sepL (postE m c) L8 ∗ ow c [] -∗ W c k Q))
      ⊢ W c (loop (stepE (gOff (qo c)) (gOff (qy c)) (fun j => gOff (qy c) (hi j)) (zp c)) L8 k) Q :=
  emp_l _ _ _ _ _ _ (loopW m κ c Q (stepE (gOff (qo c)) (gOff (qy c)) (fun j => gOff (qy c) (hi j)) (zp c)) 3
    (fun j => [.k (.gr j)]) iprop(emp) (preE c) (postE m c)
    (fun j T k h => stepEW m κ c Q j T h k) L8 [] k (by decide))

/-- A loop of waits, each widening its chunk. -/
theorem phaseU {ι : Type} (kw : ι → Kd) (o₀ o : ι → Off) (X : ι → FVec F S32x2048 .bf16)
    (h0 : ∀ j, (mGath (o₀ j)).view.dmaCredit = amt (kw j)) (hw : ∀ j, pay m c (kw j) ⊢ ownsTc c (mGath (o j)) fullShare (X j))
    (l : List ι) (k : P F) :
    iprop(ctx m κ c ∗ sepL (fun j => preU c (kw j) (o j)) l ∗ ow c []
        ∗ (sepL (fun j => postU c (kw j) (o j) (X j)) l ∗ ow c [] -∗ W c k Q))
      ⊢ W c (loop (fun j => stepU (o₀ j) (o j) (sm (kw j))) l k) Q :=
  loop0W m κ c Q _ [] _ _ (fun j k => emp_l _ _ _ _ _ _
    (stepUW m κ c Q (kw j) (o₀ j) (o j) (X j) (h0 j) (hw j) [] (fun x hx => absurd hx List.not_mem_nil) k)) l k

/-- The closing waits, across x and on the gathered chunks. -/
theorem phaseS (k : P F) :
    iprop(ctx m κ c ∗ sepL (fun j => preW c (.xs j)) L16 ∗ ow c [] ∗ (sepL (fun j => postW m c (.xs j)) L16 ∗ ow c [] -∗ W c k Q))
      ⊢ W c (loop waitSX L16 k) Q :=
  loop0W m κ c Q _ [] _ _ (fun j k => emp_l _ _ _ _ _ _
    (waitSXW m κ c Q j [] (fun x hx => absurd hx List.not_mem_nil) k)) L16 k

/-- A loop of waits on sends of gathered chunks. -/
theorem phaseG {ι : Type} (kw : ι → Kd) (o₀ : ι → Off) (h0 : ∀ j, (mGath (o₀ j)).view.dmaCredit = amt (kw j))
    (l : List ι) (k : P F) :
    iprop(ctx m κ c ∗ sepL (fun j => preW c (kw j)) l ∗ ow c [] ∗ (sepL (fun j => postW m c (kw j)) l ∗ ow c [] -∗ W c k Q))
      ⊢ W c (loop (fun j => waitG (o₀ j) (sm (kw j))) l k) Q :=
  loop0W m κ c Q _ [] _ _ (fun j k => emp_l _ _ _ _ _ _
    (waitGW m κ c Q (kw j) (o₀ j) (h0 j) [] (fun x hx => absurd hx List.not_mem_nil) k)) l k

/-! ## The loops' resources, item by item -/

section Items

/-- What the local copies take. -/
theorem preI_items : sepL (preI m c) L16 = iprop(sepL (fun j => ownsTc c (mPart (pOff (qo c) j)) fullShare (partC m c j)) L16
    ∗ sepL (fun j => ownsAny c (mPloc j)) L16 ∗ sepL (fun j => tk c (.pl j)) L16) := by
  unfold preI; simp only [sepL_sep]
/-- What the sends across x take. -/
theorem preX_items : sepL (preX (F := F) c) L16 = iprop(sepL (fun j => crd c (.pl j)) L16 ∗ sepL (fun j => at0 c (.pl j)) L16
    ∗ sepL (fun j => ownsAny c (mPbf j)) L16 ∗ sepL (fun j => slotX (xp c) j) L16 ∗ sepL (fun j => tk c (.xs j)) L16
    ∗ sepL (fun j => tk c (.xr j)) L16) := by
  unfold preX; simp only [sepL_sep]; rfl
/-- What the sends across x leave. -/
theorem postX_items : sepL (postX m c) L16 = iprop((sepL (fun j => ownsTc c (mPloc j) fullShare (partC m c j)) L16
    ∗ sepL (fun j => ownsTc c (mPart (pOff (qo c) j)) fullShare (partC m c j)) L16) ∗ sepL (fun j => at1 c (.pl j)) L16
    ∗ sepL (fun j => crd c (.xs j)) L16) := by
  unfold postX pay; simp only [sepL_sep]
/-- What the own results take. -/
theorem preC_items : sepL (preC m c) L16 = iprop(sepL (fun j => crd c (.xr j)) L16 ∗ sepL (fun j => at0 c (.xr j)) L16
    ∗ sepL (fun j => ownsTc c (mPloc j) fullShare (partC m c j)) L16 ∗ sepL (fun j => ownsAny c (mGath (gOff (qo c) j))) L16
    ∗ sepL (fun j => ownsAny c (mOut (gOff (qo c) j))) L16 ∗ sepL (fun j => slotG (yp c) (gOff (qo c) j) (.yr j)) L16
    ∗ sepL (fun j => slotG (zp c) (gOff (qo c) j) (.zr j)) L16 ∗ sepL (fun j => tk c (.ys j)) L16 ∗ sepL (fun j => tk c (.zs j)) L16
    ∗ sepL (fun j => tk c (.yr j)) L16 ∗ sepL (fun j => tk c (.zr j)) L16) := by
  unfold preC; simp only [sepL_sep]; rfl
/-- What the own results leave. -/
theorem postC_items : sepL (postC m c) L16 = iprop(sepL (fun j => at1 c (.xr j)) L16
    ∗ sepL (fun j => ownsTc c (mPloc j) fullShare (partC m c j)) L16 ∗ sepL (fun j => ownsTc c (mRecv j) fullShare (xv m (xp c) j)) L16
    ∗ sepL (fun j => ownsTc c (mOut (gOff (qo c) j)) fullShare (ov m c j)) L16 ∗ sepL (fun j => crd c (.ys j)) L16
    ∗ sepL (fun j => crd c (.zs j)) L16) := by
  unfold postC; simp only [sepL_sep]
/-- What the forwards take. -/
theorem preF_items (kw ks kr : Fin 8 → Kd) (p : Dev nD) (o : Fin 8 → Off) :
    sepL (fun j => preF (F := F) c (kw j) (ks j) (kr j) p (o j)) L8
      = iprop(sepL (fun j => crd c (kw j)) L8 ∗ sepL (fun j => at0 c (kw j)) L8 ∗ sepL (fun j => ownsAny c (mOut (o j))) L8
        ∗ sepL (fun j => slotG p (o j) (kr j)) L8 ∗ sepL (fun j => tok c (ks j)) L8 ∗ sepL (fun j => tok p (kr j)) L8) := by
  unfold preF; simp only [sepL_sep]
/-- What the forwards leave. -/
theorem postF_items (kw ks : Fin 8 → Kd) (o : Fin 8 → Off) (X : Fin 8 → FVec F S32x2048 .bf16) :
    sepL (fun j => postF c (kw j) (ks j) (o j) (X j)) L8
      = iprop(sepL (fun j => at1 c (kw j)) L8 ∗ sepL (fun j => ownsTc c (mGath (o j)) fullShare.right (X j)) L8
        ∗ sepL (fun j => ownsTc c (mOut (o j)) fullShare (k0_pay62 (X j))) L8 ∗ sepL (fun j => crd c (ks j)) L8) := by
  unfold postF; simp only [sepL_sep]
/-- What the waits that widen a chunk take. -/
theorem preU_items (kw : Fin 8 → Kd) (o : Fin 8 → Off) :
    sepL (fun j => preU (F := F) c (kw j) (o j)) L8
      = iprop(sepL (fun j => crd c (kw j)) L8 ∗ sepL (fun j => at0 c (kw j)) L8 ∗ sepL (fun j => ownsAny c (mOut (o j))) L8) := by
  unfold preU; simp only [sepL_sep]
/-- What they leave. -/
theorem postU_items (kw : Fin 8 → Kd) (o : Fin 8 → Off) (X : Fin 8 → FVec F S32x2048 .bf16) :
    sepL (fun j => postU c (kw j) (o j) (X j)) L8
      = iprop(sepL (fun j => at1 c (kw j)) L8 ∗ sepL (fun j => ownsTc c (mGath (o j)) fullShare (X j)) L8
        ∗ sepL (fun j => ownsTc c (mOut (o j)) fullShare (k0_pay62 (X j))) L8) := by
  unfold postU; simp only [sepL_sep]
/-- What the closing waits take. -/
theorem preW_items {ι : Type} (kw : ι → Kd) (l : List ι) :
    sepL (fun j => preW (F := F) c (kw j)) l = iprop(sepL (fun j => crd c (kw j)) l ∗ sepL (fun j => at0 c (kw j)) l) := by
  unfold preW; simp only [sepL_sep]
/-- What the closing waits leave. -/
theorem postW_items {ι : Type} (kw : ι → Kd) (l : List ι) :
    sepL (fun j => postW m c (kw j)) l = iprop(sepL (fun j => pay m c (kw j)) l ∗ sepL (fun j => at1 c (kw j)) l) := by
  unfold postW; simp only [sepL_sep]

/-- Two halves of chunks at the same contents are the chunks. -/
theorem join_halves {ι : Type} (o : ι → Off) (X : ι → FVec F S32x2048 .bf16) (l : List ι) :
    iprop(sepL (fun j => ownsTc c (mGath (o j)) fullShare.left (X j)) l ∗ sepL (fun j => ownsTc c (mGath (o j)) fullShare.right (X j)) l)
      ⊢ (sepL (fun j => ownsTc c (mGath (o j)) fullShare (X j)) l : sProp 𝕄) := by
  have h : ∀ j, iprop(ownsTc c (mGath (o j)) fullShare.left (X j) ∗ ownsTc c (mGath (o j)) fullShare.right (X j))
      ⊢ (ownsTc c (mGath (o j)) fullShare (X j) : sProp 𝕄) := fun j => by
    iintro H
    iapply (owns_halves (c : Thread nD τ) (mGath (o j)) fullShare (X j)).2; iexact H
  rw [← sepL_sep]
  exact sepL_mono h l

end Items

/-! ## The whole -/

/-- What a device holds at its body's start beside `ctx` and its debts. -/
def start : sProp 𝕄 :=
  iprop((sepL (fun j => ownsTc c (mPart (pOff (qo c) j)) fullShare (partC m c j)) L16 ∗ ownsTc c (mRes (rOff (qo c))) fullShare (resB m c)
      ∗ ownsTc c aGam fullShare (gamB m c))
    ∗ (sepL (fun j => ownsAny c (mPloc j)) L16 ∗ ownsAny c aRloc ∗ sepL (fun j => ownsAny c (mPbf j)) L16
      ∗ sepL (fun j => ownsAny c (mRecv j)) L16)
    ∗ (sepL (fun j => ownsAny c (mGath (gOff (qo c) j))) L16 ∗ sepL (fun j => ownsAny c (mGath (gOff (qy c) j))) L16
      ∗ sepL (fun j => ownsAny c (mGath (gOff (qz c) j))) L16 ∗ sepL (fun j => ownsAny c (mGath (gOff (qd c) j))) L16)
    ∗ (sepL (fun j => ownsAny c (mOut (gOff (qo c) j))) L16 ∗ sepL (fun j => ownsAny c (mOut (gOff (qy c) j))) L16
      ∗ sepL (fun j => ownsAny c (mOut (gOff (qz c) j))) L16 ∗ sepL (fun j => ownsAny c (mOut (gOff (qd c) j))) L16)
    ∗ bigSep Finset.univ (at0 c) ∗ bigSep Finset.univ (tk c)
    ∗ (sepL (fun i => dutyTok ER (barCell (peer i c)) 0 i) [0, 1, 2] ∗ cred (tallyAt (barCell c) () 3) ∗ atPos ER (barCell c) 0 ∅ 0)
    ∗ (sepL (fun j => crd c (.xr j)) L16 ∗ sepL (fun j => crd c (.yr j)) L16 ∗ sepL (fun j => crd c (.zr j)) L16
      ∗ sepL (fun j => crd c (.fr j)) L8 ∗ sepL (fun j => crd c (.gr j)) L8))

/-- What it holds at its end. -/
def finish : sProp 𝕄 :=
  iprop((sepL (fun j => ownsTc c (mPart (pOff (qo c) j)) fullShare (partC m c j)) L16 ∗ ownsTc c (mRes (rOff (qo c))) fullShare (resB m c)
      ∗ ownsTc c aGam fullShare (gamB m c))
    ∗ (sepL (fun j => ownsTc c (mPloc j) fullShare (partC m c j)) L16 ∗ ownsTc c aRloc fullShare (resB m c)
      ∗ sepL (fun j => ownsTc c (mPbf j) fullShare (xv m c j)) L16 ∗ sepL (fun j => ownsTc c (mRecv j) fullShare (xv m (xp c) j)) L16)
    ∗ (sepL (fun j => ownsTc c (mGath (gOff (qo c) j)) fullShare (gv m c j)) L16
      ∗ sepL (fun j => ownsTc c (mGath (gOff (qy c) j)) fullShare (gv m (yp c) j)) L16
      ∗ sepL (fun j => ownsTc c (mGath (gOff (qz c) j)) fullShare (gv m (zp c) j)) L16
      ∗ sepL (fun j => ownsTc c (mGath (gOff (qd c) j)) fullShare (gv m (zp (yp c)) j)) L16)
    ∗ (sepL (fun j => ownsTc c (mOut (gOff (qo c) j)) fullShare (ov m c j)) L16
      ∗ sepL (fun j => ownsTc c (mOut (gOff (qy c) j)) fullShare (uv m (yp c) j)) L16
      ∗ sepL (fun j => ownsTc c (mOut (gOff (qz c) j)) fullShare (uv m (zp c) j)) L16
      ∗ sepL (fun j => ownsTc c (mOut (gOff (qd c) j)) fullShare (uv m (zp (yp c)) j)) L16)
    ∗ bigSep Finset.univ (at1 c) ∗ atPos ER (barCell c) 1 ∅ 0 ∗ ow c [])

/-- Loading the scale gives what its buffer holds. -/
theorem loadGam (k : FVec F S1x2048 .f32 → P F) :
    iprop(ownsTc c aGam fullShare (gamB m c) ∗ (ownsTc c aGam fullShare (gamB m c) -∗ W c (k (gamB m c)) Q))
      ⊢ W c (.op (.load (e := .f32) aGam (Rect.unit (s := S1x2048) ![0, 0] S1x2048.size inb_S1x2048_S1x2048_0_0).toLoadRect
        (View.loadsAt_vmem h_S1x2048)) fun g => k g) Q := by
  refine .trans ?_ (loadP c Q aGam (Rect.unit (s := S1x2048) ![0, 0] S1x2048.size inb_S1x2048_S1x2048_0_0) fullShare (gamB m c))
  have e : (fun i => gamB m c ((Rect.unit (s := S1x2048) ![0, 0] S1x2048.size inb_S1x2048_S1x2048_0_0).emb i)) = gamB m c := by
    funext i
    congr 1
    funext a
    refine Fin.ext ?_
    show (![0, 0] : Fin 2 → ℕ) a + 1 * (i a).val = (i a).val
    have : (![0, 0] : Fin 2 → ℕ) a = 0 := by revert a; decide
    omega
  rw [e]

end Cert.KernelIdeal.Run

end
-- ==== Proof.Body.lean ====
module

public import proofs.«01_k».proof.Proof.Phases

/-! The whole body: the phases one after the other. -/

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

local notation "𝕄" => MT nD τ sig Unit (Elt F) ℕ UU ℕ

variable (m : (ℓ : Loc nD τ sig) → Buf (Elt F) ℓ)
variable (κ : GSem nD τ sig → ℕ) (c : Dev nD) (Q : PUnit.{1} → sProp (MT nD τ sig Unit (Elt F) ℕ UU ℕ))

set_option maxHeartbeats 4000000 in
/-- The body on device `c` runs from `start` to `finish`. -/
theorem bodyW : iprop(ctx m κ c ∗ start m c ∗ ow c DL ∗ (finish m c -∗ W c (.ret ⟨⟩) Q)) ⊢ W c (body c) Q := by
  unfold start body prog
  iintro ⟨#Hctx, ⟨⟨HA, HR, HGm⟩, ⟨HPl, HRl, HPb, HRv⟩, ⟨Hg0, Hgy, Hgz, Hgd⟩, ⟨Ho0, Hoy, Hoz, Hod⟩, Hat, Htk, ⟨Hbt, Hbc, Hba⟩,
    ⟨Cxr, Cyr, Czr, Cfr, Cgr⟩⟩, HO, Hk⟩
  ihave Hat := (Entails.of_eq (bigK (at0 (F := F) c))) $$ Hat
  icases Hat with ⟨Apl, ⟨Alc, -⟩, Axs, Axr, Ays, Ayr, Azs, Azr, Afs, Afr, Ags, Agr⟩
  ihave Htk := (Entails.of_eq (bigK (tk (F := F) c))) $$ Htk
  icases Htk with ⟨Tpl, ⟨Tlc, -⟩, Txs, Txr, Tys, Tyr, Tzs, Tzr, Tfs, Tfr, Tgs, Tgr⟩
  -- the local copies
  iapply (phaseI m κ c Q DL _)
  isplitr; · iexact Hctx
  isplitl [HA HPl Tpl]
  · rw [preI_items]
    isplitl [HA]; · iexact HA
    isplitl [HPl]; · iexact HPl
    iexact Tpl
  isplitl [HO]; · iexact HO
  iintro ⟨Cpl, HO⟩
  iapply (copyResW m κ c Q _)
  isplitr; · iexact Hctx
  isplitl [HR]; · iexact HR
  isplitl [HRl]; · iexact HRl
  isplitl [Tlc]; · iexact Tlc
  iintro Clc
  -- the barrier
  ihave Hgd := (Entails.of_eq (sepL_halves (fun j => ownsAny (F := F) c (mGath (gOff (qd c) j))))) $$ Hgd
  icases Hgd with ⟨Hgdl, Hgdh⟩
  iapply (barrierW m κ c Q D1 (by decide) _)
  isplitr; · iexact Hctx
  isplitl [HRv Hgy Hgz Hgdl Hgdh]
  · simp only [sepL, gift]
    isplitl [HRv]; · iexact HRv
    isplitl [Hgy Hgdl]
    · isplitl [Hgy]; · iexact Hgy
      iexact Hgdl
    isplitl [Hgz Hgdh]
    · isplitl [Hgz]; · iexact Hgz
      iexact Hgdh
    iempintro
  isplitl [Hbt]; · iexact Hbt
  isplitl [Hbc]; · iexact Hbc
  isplitl [Hba]; · iexact Hba
  isplitl [HO]; · iexact HO
  iintro ⟨Hbp, Hba, HO⟩
  ihave Hbp := (show sepL (barPay (F := F) c) [0, 1, 2] ⊢ iprop(sepL (fun j => slotX (F := F) (xp c) j) L16
    ∗ (sepL (fun j => slotG (yp c) (gOff (qo c) j) (.yr j)) L16 ∗ sepL (fun j => slotG (yp c) (gOff (qz c) (lo j)) (.fr j)) L8)
    ∗ (sepL (fun j => slotG (zp c) (gOff (qo c) j) (.zr j)) L16 ∗ sepL (fun j => slotG (zp c) (gOff (qy c) (hi j)) (.gr j)) L8)
    ∗ emp) from .rfl) $$ Hbp
  icases Hbp with ⟨Sx, ⟨Sy, Sf⟩, ⟨Sz, Sg⟩, -⟩
  -- across x
  iapply (phaseX m κ c Q _)
  isplitr; · iexact Hctx
  isplitl [Cpl Apl HPb Sx Txs Txr]
  · rw [preX_items]
    isplitl [Cpl]; · iexact Cpl
    isplitl [Apl]; · iexact Apl
    isplitl [HPb]; · iexact HPb
    isplitl [Sx]; · iexact Sx
    isplitl [Txs]; · iexact Txs
    iexact Txr
  isplitl [HO]; · iexact HO
  rw [postX_items]
  iintro ⟨⟨⟨HPl, HA⟩, Apl, Cxs⟩, HO⟩
  iapply (waitResW m κ c Q D2 (by decide) _)
  isplitr; · iexact Hctx
  isplitl [Clc]; · iexact Clc
  isplitl [Alc]; · iexact Alc
  isplitl [HO]; · iexact HO
  iintro ⟨Hlc, Alc, HO⟩
  ihave Hlc := (show pay m c .lc ⊢ iprop(ownsTc c aRloc fullShare (resB m c) ∗ ownsTc c (mRes (rOff (qo c))) fullShare (resB m c)) from .rfl) $$ Hlc
  icases Hlc with ⟨HRl, HR⟩
  iapply (loadGam m c Q)
  isplitl [HGm]; · iexact HGm
  iintro HGm
  -- the own result
  iapply (phaseC m κ c Q _)
  isplitr; · iexact Hctx
  isplitl [HRl]; · iexact HRl
  isplitl [Cxr Axr HPl Hg0 Ho0 Sy Sz Tys Tzs Tyr Tzr]
  · rw [preC_items]
    isplitl [Cxr]; · iexact Cxr
    isplitl [Axr]; · iexact Axr
    isplitl [HPl]; · iexact HPl
    isplitl [Hg0]; · iexact Hg0
    isplitl [Ho0]; · iexact Ho0
    isplitl [Sy]; · iexact Sy
    isplitl [Sz]; · iexact Sz
    isplitl [Tys]; · iexact Tys
    isplitl [Tzs]; · iexact Tzs
    isplitl [Tyr]; · iexact Tyr
    iexact Tzr
  isplitl [HO]; · iexact HO
  rw [postC_items]
  iintro ⟨HRl, ⟨Axr, HPl, HRv, Ho0, Cys, Czs⟩, HO⟩
  -- the chunks forwarded
  ihave Czr := (Entails.of_eq (sepL_halves (fun j => crd (F := F) c (.zr j)))) $$ Czr
  icases Czr with ⟨Czl, Czh⟩
  ihave Cyr := (Entails.of_eq (sepL_halves (fun j => crd (F := F) c (.yr j)))) $$ Cyr
  icases Cyr with ⟨Cyl, Cyh⟩
  ihave Azr := (Entails.of_eq (sepL_halves (fun j => at0 (F := F) c (.zr j)))) $$ Azr
  icases Azr with ⟨Azl, Azh⟩
  ihave Ayr := (Entails.of_eq (sepL_halves (fun j => at0 (F := F) c (.yr j)))) $$ Ayr
  icases Ayr with ⟨Ayl, Ayh⟩
  ihave Hoy := (Entails.of_eq (sepL_halves (fun j => ownsAny (F := F) c (mOut (gOff (qy c) j))))) $$ Hoy
  icases Hoy with ⟨Hoyl, Hoyh⟩
  ihave Hoz := (Entails.of_eq (sepL_halves (fun j => ownsAny (F := F) c (mOut (gOff (qz c) j))))) $$ Hoz
  icases Hoz with ⟨Hozl, Hozh⟩
  ihave Hod := (Entails.of_eq (sepL_halves (fun j => ownsAny (F := F) c (mOut (gOff (qd c) j))))) $$ Hod
  icases Hod with ⟨Hodl, Hodh⟩
  iapply (phaseD m κ c Q _)
  isplitr; · iexact Hctx
  isplitl [Czl Azl Hozl Sf Tfs Tfr]
  · rw [preF_items c (fun j => .zr (lo j)) (fun j => .fs j) (fun j => .fr j) (yp c) (fun j => gOff (qz c) (lo j))]
    isplitl [Czl]; · iexact Czl
    isplitl [Azl]; · iexact Azl
    isplitl [Hozl]; · iexact Hozl
    isplitl [Sf]; · iexact Sf
    isplitl [Tfs]; · iexact Tfs
    iexact Tfr
  isplitl [HO]; · iexact HO
  rw [postF_items c (fun j => .zr (lo j)) (fun j => .fs j) (fun j => gOff (qz c) (lo j)) (fun j => gv m (zp c) (lo j))]
  iintro ⟨⟨Azl, Hgzl, Hozl, Cfs⟩, HO⟩
  iapply (phaseE m κ c Q _)
  isplitr; · iexact Hctx
  isplitl [Cyh Ayh Hoyh Sg Tgs Tgr]
  · rw [preF_items c (fun j => .yr (hi j)) (fun j => .gs j) (fun j => .gr j) (zp c) (fun j => gOff (qy c) (hi j))]
    isplitl [Cyh]; · iexact Cyh
    isplitl [Ayh]; · iexact Ayh
    isplitl [Hoyh]; · iexact Hoyh
    isplitl [Sg]; · iexact Sg
    isplitl [Tgs]; · iexact Tgs
    iexact Tgr
  isplitl [HO]; · iexact HO
  rw [postF_items c (fun j => .yr (hi j)) (fun j => .gs j) (fun j => gOff (qy c) (hi j)) (fun j => gv m (yp c) (hi j))]
  iintro ⟨⟨Ayh, Hgyh, Hoyh, Cgs⟩, HO⟩
  -- the chunks received
  iapply (phaseU m κ c Q (fun j : Fin 8 => .zr (hi j)) (fun j => gOff (qo c) (hi j)) (fun j => gOff (qz c) (hi j))
    (fun j => gv m (zp c) (hi j)) (fun _ => rfl) (fun _ => .rfl) L8 _)
  isplitr; · iexact Hctx
  isplitl [Czh Azh Hozh]
  · rw [preU_items c (fun j => .zr (hi j)) (fun j => gOff (qz c) (hi j))]
    isplitl [Czh]; · iexact Czh
    isplitl [Azh]; · iexact Azh
    iexact Hozh
  isplitl [HO]; · iexact HO
  rw [postU_items c (fun j => .zr (hi j)) (fun j => gOff (qz c) (hi j)) (fun j => gv m (zp c) (hi j))]
  iintro ⟨⟨Azh, Hgzh, Hozh⟩, HO⟩
  iapply (phaseU m κ c Q (fun j : Fin 8 => .yr (lo j)) (fun j => gOff (qo c) (lo j)) (fun j => gOff (qy c) (lo j))
    (fun j => gv m (yp c) (lo j)) (fun _ => rfl) (fun _ => .rfl) L8 _)
  isplitr; · iexact Hctx
  isplitl [Cyl Ayl Hoyl]
  · rw [preU_items c (fun j => .yr (lo j)) (fun j => gOff (qy c) (lo j))]
    isplitl [Cyl]; · iexact Cyl
    isplitl [Ayl]; · iexact Ayl
    iexact Hoyl
  isplitl [HO]; · iexact HO
  rw [postU_items c (fun j => .yr (lo j)) (fun j => gOff (qy c) (lo j)) (fun j => gv m (yp c) (lo j))]
  iintro ⟨⟨Ayl, Hgyl, Hoyl⟩, HO⟩
  iapply (phaseU m κ c Q (fun j : Fin 8 => .fr j) (fun j => gOff (qz c) (lo j)) (fun j => gOff (qd c) (lo j))
    (fun j => gv m (zp (yp c)) (lo j)) (fun _ => rfl) (fun _ => .rfl) L8 _)
  isplitr; · iexact Hctx
  isplitl [Cfr Afr Hodl]
  · rw [preU_items c (fun j => .fr j) (fun j => gOff (qd c) (lo j))]
    isplitl [Cfr]; · iexact Cfr
    isplitl [Afr]; · iexact Afr
    iexact Hodl
  isplitl [HO]; · iexact HO
  rw [postU_items c (fun j => .fr j) (fun j => gOff (qd c) (lo j)) (fun j => gv m (zp (yp c)) (lo j))]
  iintro ⟨⟨Afr, Hgdl, Hodl⟩, HO⟩
  iapply (phaseU m κ c Q (fun j : Fin 8 => .gr j) (fun j => gOff (qy c) (hi j)) (fun j => gOff (qd c) (hi j))
    (fun j => gv m (zp (yp c)) (hi j)) (fun _ => rfl) (fun _ => .rfl) L8 _)
  isplitr; · iexact Hctx
  isplitl [Cgr Agr Hodh]
  · rw [preU_items c (fun j => .gr j) (fun j => gOff (qd c) (hi j))]
    isplitl [Cgr]; · iexact Cgr
    isplitl [Agr]; · iexact Agr
    iexact Hodh
  isplitl [HO]; · iexact HO
  rw [postU_items c (fun j => .gr j) (fun j => gOff (qd c) (hi j)) (fun j => gv m (zp (yp c)) (hi j))]
  iintro ⟨⟨Agr, Hgdh, Hodh⟩, HO⟩
  -- the closing waits
  iapply (phaseS m κ c Q _)
  isplitr; · iexact Hctx
  isplitl [Cxs Axs]
  · rw [preW_items c (fun j => .xs j)]
    isplitl [Cxs]; · iexact Cxs
    iexact Axs
  isplitl [HO]; · iexact HO
  rw [postW_items m c (fun j => .xs j)]
  iintro ⟨⟨HPb, Axs⟩, HO⟩
  iapply (phaseG m κ c Q (fun j : Fin 16 => .ys j) (fun j => gOff (qo c) j) (fun _ => rfl) L16 _)
  isplitr; · iexact Hctx
  isplitl [Cys Ays]
  · rw [preW_items c (fun j => .ys j)]
    isplitl [Cys]; · iexact Cys
    iexact Ays
  isplitl [HO]; · iexact HO
  rw [postW_items m c (fun j => .ys j)]
  iintro ⟨⟨Hg0l, Ays⟩, HO⟩
  iapply (phaseG m κ c Q (fun j : Fin 16 => .zs j) (fun j => gOff (qo c) j) (fun _ => rfl) L16 _)
  isplitr; · iexact Hctx
  isplitl [Czs Azs]
  · rw [preW_items c (fun j => .zs j)]
    isplitl [Czs]; · iexact Czs
    iexact Azs
  isplitl [HO]; · iexact HO
  rw [postW_items m c (fun j => .zs j)]
  iintro ⟨⟨Hg0r, Azs⟩, HO⟩
  iapply (phaseG m κ c Q (fun j : Fin 8 => .fs j) (fun j => gOff (qz c) (lo j)) (fun _ => rfl) L8 _)
  isplitr; · iexact Hctx
  isplitl [Cfs Afs]
  · rw [preW_items c (fun j => .fs j)]
    isplitl [Cfs]; · iexact Cfs
    iexact Afs
  isplitl [HO]; · iexact HO
  rw [postW_items m c (fun j => .fs j)]
  iintro ⟨⟨Hgzll, Afs⟩, HO⟩
  iapply (phaseG m κ c Q (fun j : Fin 8 => .gs j) (fun j => gOff (qy c) (hi j)) (fun _ => rfl) L8 _)
  isplitr; · iexact Hctx
  isplitl [Cgs Ags]
  · rw [preW_items c (fun j => .gs j)]
    isplitl [Cgs]; · iexact Cgs
    iexact Ags
  isplitl [HO]; · iexact HO
  rw [postW_items m c (fun j => .gs j)]
  iintro ⟨⟨Hgyhl, Ags⟩, HO⟩
  -- the end
  iapply Hk
  unfold finish
  isplitl [HA HR HGm]
  · isplitl [HA]; · iexact HA
    isplitl [HR]; · iexact HR
    iexact HGm
  isplitl [HPl HRl HPb HRv]
  · isplitl [HPl]; · iexact HPl
    isplitl [HRl]; · iexact HRl
    isplitl [HPb]; · iexact HPb
    iexact HRv
  isplitl [Hg0l Hg0r Hgyl Hgyh Hgyhl Hgzl Hgzll Hgzh Hgdl Hgdh]
  · isplitl [Hg0l Hg0r]
    · iapply (join_halves c (fun j => gOff (qo c) j) (fun j => gv m c j) L16)
      isplitl [Hg0l]; · iexact Hg0l
      iexact Hg0r
    isplitl [Hgyl Hgyh Hgyhl]
    · rw [sepL_halves (fun j => (ownsTc c (mGath (gOff (qy c) j)) fullShare (gv m (yp c) j) : sProp 𝕄))]
      isplitl [Hgyl]; · iexact Hgyl
      iapply (join_halves c (fun j => gOff (qy c) (hi j)) (fun j => gv m (yp c) (hi j)) L8)
      isplitl [Hgyhl]; · iexact Hgyhl
      iexact Hgyh
    isplitl [Hgzl Hgzll Hgzh]
    · rw [sepL_halves (fun j => (ownsTc c (mGath (gOff (qz c) j)) fullShare (gv m (zp c) j) : sProp 𝕄))]
      isplitl [Hgzl Hgzll]
      · iapply (join_halves c (fun j => gOff (qz c) (lo j)) (fun j => gv m (zp c) (lo j)) L8)
        isplitl [Hgzll]; · iexact Hgzll
        iexact Hgzl
      iexact Hgzh
    rw [sepL_halves (fun j => (ownsTc c (mGath (gOff (qd c) j)) fullShare (gv m (zp (yp c)) j) : sProp 𝕄))]
    isplitl [Hgdl]; · iexact Hgdl
    iexact Hgdh
  isplitl [Ho0 Hoyl Hoyh Hozl Hozh Hodl Hodh]
  · isplitl [Ho0]; · iexact Ho0
    isplitl [Hoyl Hoyh]
    · rw [sepL_halves (fun j => (ownsTc c (mOut (gOff (qy c) j)) fullShare (uv m (yp c) j) : sProp 𝕄))]
      isplitl [Hoyl]; · iexact Hoyl
      iexact Hoyh
    isplitl [Hozl Hozh]
    · rw [sepL_halves (fun j => (ownsTc c (mOut (gOff (qz c) j)) fullShare (uv m (zp c) j) : sProp 𝕄))]
      isplitl [Hozl]; · iexact Hozl
      iexact Hozh
    rw [sepL_halves (fun j => (ownsTc c (mOut (gOff (qd c) j)) fullShare (uv m (zp (yp c)) j) : sProp 𝕄))]
    isplitl [Hodl]; · iexact Hodl
    iexact Hodh
  isplitl [Apl Alc Axs Axr Ays Ayl Ayh Azs Azl Azh Afs Afr Ags Agr]
  · rw [bigK (at1 (F := F) c)]
    isplitl [Apl]; · iexact Apl
    isplitl [Alc]
    · isplitl [Alc]; · iexact Alc
      iempintro
    isplitl [Axs]; · iexact Axs
    isplitl [Axr]; · iexact Axr
    isplitl [Ays]; · iexact Ays
    isplitl [Ayl Ayh]
    · rw [sepL_halves (fun j => at1 (F := F) c (.yr j))]
      isplitl [Ayl]; · iexact Ayl
      iexact Ayh
    isplitl [Azs]; · iexact Azs
    isplitl [Azl Azh]
    · rw [sepL_halves (fun j => at1 (F := F) c (.zr j))]
      isplitl [Azl]; · iexact Azl
      iexact Azh
    isplitl [Afs]; · iexact Afs
    isplitl [Afr]; · iexact Afr
    isplitl [Ags]; · iexact Ags
    iexact Agr
  isplitl [Hba]; · iexact Hba
  iexact HO

end Cert.KernelIdeal.Run

end
-- ==== Proof.Ends.lean ====
module

public import proofs.«01_k».proof.Proof.Body
public import Idealize.ShloMosaic.Lib.ViewIndex

/-! Whole buffers as their chunks, at the body's start and at its end. -/

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ## The chunks tile -/

/-- Chunk `t.2` of block `t.1`. -/
abbrev rG (t : Fin 4 × Fin 16) : Rect S2048x2048 := (gOff t.1 t.2).rect

/-- An index is in a chunk of a 2048-row array when its row is one of the chunk's 32. -/
theorem mem_rG (t : Fin 4 × Fin 16) (i : S2048x2048.Idx) :
    i ∈ (rG t).set ↔ 512 * t.1.val + 32 * t.2.val ≤ (i 0).val ∧ (i 0).val < 512 * t.1.val + 32 * t.2.val + 32 := by
  rw [Rect.mem_set_unit]
  have h1 : (i 1).val < 2048 := (i 1).isLt
  constructor
  · intro h; exact h 0
  · intro h a
    refine Fin.cases h (fun b => ?_) a
    obtain rfl : b = 0 := Subsingleton.elim _ _
    exact ⟨Nat.zero_le _, by show (i 1).val < 0 + 2048; omega⟩

/-- Two chunks of a 2048-row array have no index in common. -/
theorem rG_disj (t t' : Fin 4 × Fin 16) (h : t ≠ t') : Disjoint (rG t).set (rG t').set := by
  rw [Finset.disjoint_left]
  intro i hi hi'
  rw [mem_rG] at hi hi'
  refine h (Prod.ext (Fin.ext ?_) (Fin.ext ?_)) <;> omega

/-- The 64 chunks cover the array. -/
theorem rG_cov : (Finset.univ : Finset (Fin 4 × Fin 16)).biUnion (fun t => (rG t).set) = Finset.univ := by
  refine Finset.eq_univ_of_forall fun i => Finset.mem_biUnion.mpr ?_
  have h0 : (i 0).val < 2048 := (i 0).isLt
  refine ⟨(⟨(i 0).val / 512, by omega⟩, ⟨((i 0).val % 512) / 32, by omega⟩), Finset.mem_univ _, (mem_rG _ i).mpr ?_⟩
  dsimp only
  omega

/-- An index is in a chunk of a 512-row array when its row is one of the chunk's 32. -/
theorem mem_rQ (j : Fin 16) (i : S512x2048.Idx) : i ∈ (rQ j).set ↔ 32 * j.val ≤ (i 0).val ∧ (i 0).val < 32 * j.val + 32 := by
  rw [Rect.mem_set_unit]
  have h1 : (i 1).val < 2048 := (i 1).isLt
  constructor
  · intro h; exact h 0
  · intro h a
    refine Fin.cases h (fun b => ?_) a
    obtain rfl : b = 0 := Subsingleton.elim _ _
    exact ⟨Nat.zero_le _, by show (i 1).val < 0 + 2048; omega⟩

/-- Two chunks of a 512-row array have no index in common. -/
theorem rQ_disj (j j' : Fin 16) (h : j ≠ j') : Disjoint (rQ j).set (rQ j').set := by
  rw [Finset.disjoint_left]
  intro i hi hi'
  rw [mem_rQ] at hi hi'
  refine h (Fin.ext ?_); omega

/-- The sixteen chunks cover it. -/
theorem rQ_cov : (Finset.univ : Finset (Fin 16)).biUnion (fun j => (rQ j).set) = Finset.univ := by
  refine Finset.eq_univ_of_forall fun i => Finset.mem_biUnion.mpr ?_
  have h0 : (i 0).val < 512 := (i 0).isLt
  refine ⟨⟨(i 0).val / 32, by omega⟩, Finset.mem_univ _, (mem_rQ _ i).mpr ?_⟩
  dsimp only
  omega

/-- A family over the blocks, from the device's own. -/
theorem bigSep4 {M : Type} [URA M] (Φ : Fin 4 → sProp M) :
    bigSep Finset.univ Φ = iprop(Φ (qo c) ∗ Φ (qy c) ∗ Φ (qz c) ∗ Φ (qd c)) := by
  rw [bigSep_univ_list Φ [qo c, qy c, qz c, qd c]
    ((by decide +kernel : ∀ c : Dev nD, [qo c, qy c, qz c, qd c].Nodup) c)
    ((by decide +kernel : ∀ (c : Dev nD) (i : Fin 4), i ∈ [qo c, qy c, qz c, qd c]) c)]
  show iprop(Φ (qo c) ∗ Φ (qy c) ∗ Φ (qz c) ∗ Φ (qd c) ∗ emp) = _
  rw [eqv (Laws.sep_emp (P := Φ (qd c)))]

/-- A family over the chunks, block by block. -/
theorem bigSep64 {M : Type} [URA M] (Φ : Fin 4 × Fin 16 → sProp M) :
    bigSep Finset.univ Φ = iprop(sepL (fun j => Φ (qo c, j)) L16 ∗ sepL (fun j => Φ (qy c, j)) L16 ∗ sepL (fun j => Φ (qz c, j)) L16
      ∗ sepL (fun j => Φ (qd c, j)) L16) := by
  rw [bigSep_univ_prod, bigSep4 c]
  simp only [bigSep16]

section Split
variable {e : EltTy}

/-- A buffer owned at known contents is owned at some contents. -/
theorem toAny {sp : Space} {sh : Shape} (a : Memref sig .tc sp sh e) (X : sh.Idx → Elt F e) :
    ownsTc c a fullShare X ⊢ ownsAny (F := F) c a := by
  unfold ownsAny; iintro H; iexists X; iexact H

/-- An owned array of 512 rows is its chunks, owned, -/
theorem split16 (a : Memref sig .tc .vmem S512x2048 e) :
    ownsAny (F := F) c a ⊢ sepL (fun j => ownsAny (F := F) c (a.slice (rQ j) (fun _ => rfl))) L16 := by
  rw [ownsAny]
  refine exists_elim fun X => ?_
  have h := owns_rects (Ix := Unit) (Name := ℕ) (U := UU) (Lvl := ℕ) (c : Thread nD τ) a fullShare rQ (fun _ _ => rfl) rQ_disj rQ_cov X
  rw [bigSep16] at h
  exact h.trans (sepL_mono (fun j => toAny c (a.slice (rQ j) (fun _ => rfl)) (fun i => X ((rQ j).emb i))) L16)

/-- and back. -/
theorem join16 (a : Memref sig .tc .vmem S512x2048 e) (X : Fin 16 → S32x2048.Idx → Elt F e) :
    sepL (fun j => (ownsTc c (a.slice (rQ j) (fun _ => rfl)) fullShare (X j) : sProp 𝕄)) L16 ⊢ ownsAny (F := F) c a := by
  have h := owns_of_rects (Ix := Unit) (Name := ℕ) (U := UU) (Lvl := ℕ) (c : Thread nD τ) a fullShare rQ (fun _ _ => rfl) rQ_disj rQ_cov
    (Rect.glue rQ rQ_cov X)
  have e : ∀ j, (fun i => Rect.glue rQ rQ_cov X ((rQ j).emb i)) = X j := fun j => funext fun i => Rect.glue_emb rQ rQ_cov rQ_disj X j i
  simp only [e] at h
  rw [bigSep16] at h
  exact h.trans (toAny c a _)

/-- An owned array of 2048 rows is its chunks, block by block, -/
theorem split64 (a : Memref sig .tc .vmem S2048x2048 e) :
    ownsAny (F := F) c a ⊢ iprop(sepL (fun j => ownsAny (F := F) c (a.slice (gOff (qo c) j).rect (fun _ => rfl))) L16
      ∗ sepL (fun j => ownsAny (F := F) c (a.slice (gOff (qy c) j).rect (fun _ => rfl))) L16
      ∗ sepL (fun j => ownsAny (F := F) c (a.slice (gOff (qz c) j).rect (fun _ => rfl))) L16
      ∗ sepL (fun j => ownsAny (F := F) c (a.slice (gOff (qd c) j).rect (fun _ => rfl))) L16) := by
  have h : ownsAny (F := F) c a ⊢ bigSep Finset.univ fun t => ownsAny (F := F) c (a.slice (rG t) (fun _ => rfl)) := by
    rw [ownsAny]
    refine exists_elim fun X => ?_
    exact (owns_rects (Ix := Unit) (Name := ℕ) (U := UU) (Lvl := ℕ) (c : Thread nD τ) a fullShare rG (fun _ _ => rfl) rG_disj rG_cov X).trans
      (bigSep_mono (fun t _ => toAny c (a.slice (rG t) (fun _ => rfl)) (fun i => X ((rG t).emb i))))
  rw [bigSep64 c] at h
  exact h

/-- and back, at the chunks' contents put together. -/
theorem join64 (a : Memref sig .tc .vmem S2048x2048 e) (X : Fin 4 × Fin 16 → S32x2048.Idx → Elt F e) :
    iprop(sepL (fun j => (ownsTc c (a.slice (gOff (qo c) j).rect (fun _ => rfl)) fullShare (X (qo c, j)) : sProp 𝕄)) L16
      ∗ sepL (fun j => ownsTc c (a.slice (gOff (qy c) j).rect (fun _ => rfl)) fullShare (X (qy c, j))) L16
      ∗ sepL (fun j => ownsTc c (a.slice (gOff (qz c) j).rect (fun _ => rfl)) fullShare (X (qz c, j))) L16
      ∗ sepL (fun j => ownsTc c (a.slice (gOff (qd c) j).rect (fun _ => rfl)) fullShare (X (qd c, j))) L16)
    ⊢ ownsTc c a fullShare (Rect.glue rG rG_cov X) := by
  have h := owns_of_rects (Ix := Unit) (Name := ℕ) (U := UU) (Lvl := ℕ) (c : Thread nD τ) a fullShare rG (fun _ _ => rfl) rG_disj rG_cov
    (Rect.glue rG rG_cov X)
  have e : ∀ j, (fun i => Rect.glue rG rG_cov X ((rG j).emb i)) = X j := fun j => funext fun i => Rect.glue_emb rG rG_cov rG_disj X j i
  simp only [e] at h
  rw [bigSep64 c] at h
  exact h

end Split

/-! ## What the device's output holds -/

/-- The device whose chunk a block holds on device `c`. -/
def src (c : Dev nD) (b : Fin 4) : Dev nD := if b = qo c then c else if b = qy c then yp c else if b = qz c then zp c else zp (yp c)
/-- The output's chunks. -/
def outV (t : Fin 4 × Fin 16) : FVec F S32x2048 .f32 := if t.1 = qo c then ov m c t.2 else uv m (src c t.1) t.2
/-- The output. -/
def outB : FVec F S2048x2048 .f32 := Rect.glue rG rG_cov (outV m c)

/-- The own block, the two neighbours' and the diagonal one are four different blocks. -/
theorem q_ne : ∀ c : Dev nD, qy c ≠ qo c ∧ qz c ≠ qo c ∧ qd c ≠ qo c ∧ qz c ≠ qy c ∧ qd c ≠ qy c ∧ qd c ≠ qz c := by decide +kernel
/-- The output's chunks of the own block are the device's own results. -/
theorem outV_o (j : Fin 16) : outV m c (qo c, j) = ov m c j := by unfold outV; rw [if_pos rfl]
/-- Those of the block across y are what the peer across y sent. -/
theorem outV_y (j : Fin 16) : outV m c (qy c, j) = uv m (yp c) j := by
  unfold outV src; dsimp only; rw [if_neg (q_ne c).1, if_neg (q_ne c).1, if_pos rfl]
/-- Those of the block across z are what the peer across z sent. -/
theorem outV_z (j : Fin 16) : outV m c (qz c, j) = uv m (zp c) j := by
  unfold outV src; dsimp only
  rw [if_neg (q_ne c).2.1, if_neg (q_ne c).2.1, if_neg (q_ne c).2.2.2.1, if_pos rfl]
/-- Those of the diagonal block are what the diagonal device computed. -/
theorem outV_d (j : Fin 16) : outV m c (qd c, j) = uv m (zp (yp c)) j := by
  unfold outV src; dsimp only
  rw [if_neg (q_ne c).2.2.1, if_neg (q_ne c).2.2.1, if_neg (q_ne c).2.2.2.2.1, if_neg (q_ne c).2.2.2.2.2]

/-! ## The operands' chunks and the rest of them -/

/-- The elements of the partial array that the device reads, and of the residual array. -/
def setP : Finset (Idx ((c : Thread nD τ).loc main_arg0)) :=
  (Finset.univ : Finset (Fin 16)).biUnion fun j => (mPart (pOff (qo c) j)).view.set
/-- The elements of the residual array that the device reads. -/
def setR : Finset (Idx ((c : Thread nD τ).loc main_arg1)) := (mRes (rOff (qo c))).view.set

/-- An index in a chunk of the partial array has one of the chunk's rows. -/
theorem mem_rP (b : Fin 4) (j : Fin 16) (i : S1x2048x2048.Idx)
    (h : i ∈ (Rect.unit (s := S1x2048x2048) (pOff b j).1 S1x32x2048.size (pOff b j).2).set) :
    512 * b.val + 32 * j.val ≤ (i 1).val ∧ (i 1).val < 512 * b.val + 32 * j.val + 32 := by
  rw [Rect.mem_set_unit] at h; exact h 1

/-- Two chunks of the partial array have no element in common. -/
theorem setP_disj (b : Fin 4) (j j' : Fin 16) (h : j ≠ j') :
    Disjoint (mPart (pOff b j)).view.set (mPart (pOff b j')).view.set := by
  have e (o : Off1) : (mPart o).view.set = (aPart.view.slice (Rect.unit (s := S1x2048x2048) o.1 S1x32x2048.size o.2)).set :=
    View.set_reshape _ _
  rw [e, e]
  refine View.disjoint_slice (Finset.disjoint_left.mpr fun i hi hi' => ?_)
  have h1 := mem_rP b j i hi
  have h2 := mem_rP b j' i hi'
  refine h (Fin.ext ?_); omega

/-- The partial array is the chunks the device reads, and the rest. -/
theorem part_split : ((c : Thread nD τ).loc main_arg0 ↦{fullShare} m ((c : Thread nD τ).loc main_arg0) : sProp 𝕄)
    ⊣⊢ iprop(sepL (fun j => ownsTc c (mPart (pOff (qo c) j)) fullShare (partC m c j)) L16
      ∗ ((c : Thread nD τ).loc main_arg0 ↦[Finset.univ \ setP c]{fullShare} m ((c : Thread nD τ).loc main_arg0))) := by
  have h : (sepL (fun j => ownsTc c (mPart (pOff (qo c) j)) fullShare (partC m c j)) L16 : sProp 𝕄)
      = ((c : Thread nD τ).loc main_arg0 ↦[setP c]{fullShare} m ((c : Thread nD τ).loc main_arg0)) := by
    unfold setP
    rw [pointsTo_biUnion _ _ fun j _ j' _ hj => setP_disj (qo c) j j' hj, bigSep16]
    congr 1; funext j
    exact owns_read c (mPart (pOff (qo c) j)) fullShare (m ((c : Thread nD τ).loc main_arg0))
  rw [h]
  exact pointsTo_split_subset (Finset.subset_univ _)

/-- The residual array is the block the device reads, and the rest. -/
theorem res_split : ((c : Thread nD τ).loc main_arg1 ↦{fullShare} m ((c : Thread nD τ).loc main_arg1) : sProp 𝕄)
    ⊣⊢ iprop(ownsTc c (mRes (rOff (qo c))) fullShare (resB m c)
      ∗ ((c : Thread nD τ).loc main_arg1 ↦[Finset.univ \ setR c]{fullShare} m ((c : Thread nD τ).loc main_arg1))) := by
  have h : (ownsTc c (mRes (rOff (qo c))) fullShare (resB m c) : sProp 𝕄)
      = ((c : Thread nD τ).loc main_arg1 ↦[setR c]{fullShare} m ((c : Thread nD τ).loc main_arg1)) :=
    owns_read c (mRes (rOff (qo c))) fullShare (m ((c : Thread nD τ).loc main_arg1))
  rw [h]
  exact pointsTo_split_subset (Finset.subset_univ _)

/-- The host's operations leave the partial array. -/
theorem V₁_arg0 : V₁ m c main_arg0 = m ((c : Thread nD τ).loc main_arg0) := by
  show StableHlo.after [_] (V₀ m c) (Proc.devRef .tc _) = _
  rw [StableHlo.after_cons, StableHlo.after_nil, StableHlo.reshape_result_ne _ _ _ _ _ _ _ (by decide)]
/-- They leave the residual array. -/
theorem V₁_arg1 : V₁ m c main_arg1 = m ((c : Thread nD τ).loc main_arg1) := by
  show StableHlo.after [_] (V₀ m c) (Proc.devRef .tc _) = _
  rw [StableHlo.after_cons, StableHlo.after_nil, StableHlo.reshape_result_ne _ _ _ _ _ _ _ (by decide)]
/-- They leave the scale. -/
theorem V₁_arg2 : V₁ m c main_arg2 = m ((c : Thread nD τ).loc main_arg2) := by
  show StableHlo.after [_] (V₀ m c) (Proc.devRef .tc _) = _
  rw [StableHlo.after_cons, StableHlo.after_nil, StableHlo.reshape_result_ne _ _ _ _ _ _ _ (by decide)]

end Cert.KernelIdeal.Run

end
-- ==== Proof.Region.lean ====
module

public import proofs.«01_k».proof.Proof.Ends
public import proofs.«01_k».proof.Proof.Gen.KernelIdeal.Frame
public import Idealize.ShloMosaic.Lib.Pipeline.RegionTalk
public import Idealize.ShloMosaic.Lib.Pipeline.ValueKit
public import Idealize.ShloMosaic.Harness.Basic

/-! The kernel as the pipeline's one region: what it is entered with, what it leaves, and its body's run between the two. -/

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ## Held buffers -/

/-- The arrays the body itself addresses, and the third argument. -/
def hs : Finset (DevRef τ sig) := {Proc.devRef .tc main_arg0, Proc.devRef .tc main_arg1, Proc.devRef .tc main_arg2}

/-- Holding them is owning the three arguments. -/
theorem hs_eq (W : Valuation τ sig (Elt F)) : (StableHlo.held (c : Thread nD τ) hs W : sProp 𝕄)
    = iprop(((c : Thread nD τ).loc main_arg0 ↦{fullShare} W main_arg0) ∗ ((c : Thread nD τ).loc main_arg1 ↦{fullShare} W main_arg1)
      ∗ ((c : Thread nD τ).loc main_arg2 ↦{fullShare} W main_arg2)) := by
  unfold StableHlo.held
  rw [bigSep_eq_bigSepL_of_eq [Proc.devRef .tc main_arg0, Proc.devRef .tc main_arg1, Proc.devRef .tc main_arg2] (by decide) (by decide)]
  rfl

/-- What a device holds after the region: its output put together. -/
abbrev V₂ : Valuation τ sig (Elt F) := Function.update (V₁ m c) (Proc.devRef .tc main_v2) (outB m c)

/-- The result holds what was put together. -/
theorem V₂_out : V₂ m c (Proc.devRef .tc main_v2) = outB m c := Function.update_self ..
/-- Every other buffer is as before. -/
theorem V₂_ne (b : DevRef τ sig) (h : b ≠ Proc.devRef .tc main_v2) : V₂ m c b = V₁ m c b := Function.update_of_ne h ..

/-! ## What the region is entered with -/

/-- Two families side by side are one, and back. -/
theorem pairU {ι : Type} [Fintype ι] {Φ Ψ : ι → sProp (MT nD τ sig Unit (Elt F) ℕ UU ℕ)} :
    iprop(bigSep Finset.univ Φ ∗ bigSep Finset.univ Ψ) ⊢ bigSep Finset.univ (fun c => iprop(Φ c ∗ Ψ c)) :=
  Entails.of_eq (bigSep_sep _ _ _).symm
/-- One family of pairs is two families. -/
theorem unpairU {ι : Type} [Fintype ι] {Φ Ψ : ι → sProp (MT nD τ sig Unit (Elt F) ℕ UU ℕ)} :
    bigSep Finset.univ (fun c => iprop(Φ c ∗ Ψ c)) ⊢ iprop(bigSep Finset.univ Φ ∗ bigSep Finset.univ Ψ) :=
  Entails.of_eq (bigSep_sep _ _ _)

/-- The kernel's own semaphores. -/
abbrev osem : Kd → SemLoc sig := fun k => .dma (sm k)

/-- The tokens of what the device pays, its place at its barrier cell, and the credit of what it is paid. -/
def lin : sProp 𝕄 :=
  iprop(bigSep Finset.univ (tk c)
    ∗ (sepL (fun i => dutyTok ER (barCell (peer i c)) 0 i) [0, 1, 2] ∗ cred (tallyAt (barCell c) () 3) ∗ atPos ER (barCell c) 0 ∅ 0)
    ∗ (sepL (fun j => crd c (.xr j)) L16 ∗ sepL (fun j => crd c (.yr j)) L16 ∗ sepL (fun j => crd c (.zr j)) L16
      ∗ sepL (fun j => crd c (.fr j)) L8 ∗ sepL (fun j => crd c (.gr j)) L8))

/-- Before its cells are open, and after. -/
def Tk : sProp 𝕄 := iprop(∃ κ, records m κ ∗ bigSep Finset.univ (fun k => openTok ER (cell c k)) ∗ lin c)
/-- The kernel's part once its cells are open. -/
def Xk : sProp 𝕄 := iprop(∃ κ, ctx m κ c ∗ bigSep Finset.univ (at0 c) ∗ lin c)
/-- What it leaves beside the buffers. -/
def Yk : sProp 𝕄 := semVal (barCell c) 0

/-- The kernel's own counters are its cells' counters. -/
theorem ownSems_eq : (Pipeline.ownSems0 osem c : sProp 𝕄) = bigSep Finset.univ fun k => semVal (cell c k) 0 := rfl

/-- The region's entry puts every counter into its cell. -/
theorem hopen : iprop(Tk m c ∗ Pipeline.ownSems0 osem c ∗ levAts L lv) ⊢ (|={Set.univ}=> Xk m c : sProp 𝕄) := by
  rw [ownSems_eq]
  unfold Tk Xk
  iintro ⟨⟨%κ, #HR, Hop, Hl⟩, Hs, #Hlev⟩
  have h1 (k : Kd) : iprop(records m κ ∗ (openTok ER (cell c k) ∗ semVal (cell c k) 0))
      ⊢ (|={Set.univ}=> iprop(at0 c k ∗ reached ER (cell c k) 0) : sProp 𝕄) := by
    unfold at0
    iintro ⟨#HR, Ho, Hs⟩
    ihave #HI := (records_cell m κ c k) $$ HR
    iapply (Rounds.cell_open ER (Rd m) (g := cell c k) (Set.mem_univ (κ (cell c k))))
    isplitr; · iexact HI
    isplitl [Ho]; · iexact Ho
    iexact Hs
  ihave H := (bigSep_with_persistent (R := records m κ) (S := Finset.univ)
    (Φ := fun k => iprop(openTok ER (cell c k) ∗ semVal (cell c k) 0)) fun k _ => h1 k) $$ [Hop Hs]
  · isplitr; · iexact HR
    iapply pairU
    isplitl [Hop]; · iexact Hop
    iexact Hs
  imod (bigSep_fupd Finset.univ _) $$ H with H
  ihave H := unpairU $$ H
  icases H with ⟨Hat, #Hr⟩
  imodintro
  iexists κ
  isplitr
  · unfold ctx
    isplitr; · iexact Hlev
    isplitr; · iexact HR
    iexact Hr
  isplitl [Hat]; · iexact Hat
  iexact Hl

/-- The body's end takes every counter out again, at zero. -/
theorem hclose (κ : GSem nD τ sig → ℕ) : iprop(records m κ ∗ bigSep Finset.univ (at1 c) ∗ atPos ER (barCell c) 1 ∅ 0)
    ⊢ (|={Set.univ}=> iprop((bigSep Finset.univ fun k => semVal (cell c k) 0) ∗ semVal (barCell c) 0) : sProp 𝕄) := by
  have h1 (k : Kd) : iprop(records m κ ∗ at1 c k) ⊢ (|={Set.univ}=> semVal (cell c k) 0 : sProp 𝕄) := by
    unfold at1
    iintro ⟨#HR, Ha⟩
    ihave #HI := (records_cell m κ c k) $$ HR
    iapply (Rounds.cell_close ER (Rd m) (Set.mem_univ (κ (cell c k))) id (duties_later m (cell c k)))
    isplitr; · iexact HI
    iexact Ha
  iintro ⟨#HR, Ha, Hb⟩
  ihave #HI := (records_bar m κ c) $$ HR
  imod (Rounds.cell_close ER (Rd m) (Set.mem_univ (κ (barCell c))) id (duties_later m (barCell c))) $$ [Hb] with Hb
  · isplitr; · iexact HI
    iexact Hb
  ihave H := (bigSep_with_persistent (R := records m κ) (S := Finset.univ) (Φ := at1 c) fun k _ => h1 k) $$ [Ha]
  · isplitr; · iexact HR
    iexact Ha
  imod (bigSep_fupd Finset.univ _) $$ H with H
  imodintro
  isplitl [H]; · iexact H
  iexact Hb

/-! ## The proof data -/

/-- The invariant before the body and after it. -/
def Φ₀ : sProp 𝕄 :=
  iprop(Pipeline.scopedRest spec0 c ∗ (∃ r, prngReg c r) ∗ StableHlo.held (c : Thread nD τ) hs (V₁ m c) ∗ Xk m c)
/-- The invariant after the body: the arguments, and every counter back at zero. -/
def Φ₁ : sProp 𝕄 :=
  iprop(Pipeline.scopedRest spec0 c ∗ (∃ r, prngReg c r) ∗ StableHlo.held (c : Thread nD τ) hs (V₁ m c)
    ∗ Pipeline.ownSems0 osem c ∗ Yk c)

/-- Before its one point the device owes its body's debts; after it, nothing. -/
def dat : Dat τ (Elt F) Unit ℕ UU ℕ cfg0 c where
  A w := V₁ m c (Pipeline.arrRef spec0 w)
  after := fun
    | 0, _ => gamB m c
    | 1, _ => outB m c
    | ⟨_ + 2, h⟩, _ => absurd h (Nat.not_lt.2 (Nat.le_add_left _ _))
  Φ t := if t.val = 0 then Φ₀ m c else Φ₁ m c
  q _ := fullShare
  owed t := if t.val = 0 then Ol c DL else 0

/-- The launch is admissible. -/
abbrev adm : (p : Fin 1) → (pcfgs (F := F) p).Adm := fun p => (cfgs p).toPCfg_adm
/-- The proof data of the one region. -/
def pdats : (p : Fin 1) → (c : Dev nD) → Dat τ (Elt F) Unit ℕ UU ℕ (Pipeline.pin (pcfgs (F := F)) adm p) c := fun _ => dat m

/-- After the body the staged scale is unchanged. -/
theorem after_gam : (dat m c).after 0 t0_0 = gamB m c := by dsimp only [dat]
/-- After the body the staged result is the output put together. -/
theorem after_out : (dat m c).after 1 t0_0 = outB m c := by dsimp only [dat]
/-- Before its point the device owes the body's debts. -/
theorem owed_first : (dat m c).owed t0_0.castSucc = Ol c DL := by
  show (if (t0_0.castSucc : Fin (cfg0.N + 1)).val = 0 then Ol c DL else 0) = _; exact if_pos rfl
/-- So it does when the region is entered. -/
theorem owed_zero : (pdats m 0 c).owed 0 = Ol c DL := by
  show (if (0 : Fin (cfg0.N + 1)).val = 0 then Ol c DL else 0) = _; exact if_pos rfl
/-- The invariant before the point. -/
theorem Φ_first : (dat m c).Φ t0_0.castSucc = Φ₀ m c := by
  show (if (t0_0.castSucc : Fin (cfg0.N + 1)).val = 0 then Φ₀ m c else Φ₁ m c) = _; exact if_pos rfl
/-- The invariant after the point. -/
theorem Φ_last : (dat m c).Φ t0_0.succ = Φ₁ m c := by
  show (if (t0_0.succ : Fin (cfg0.N + 1)).val = 0 then Φ₀ m c else Φ₁ m c) = _; exact if_neg (Nat.succ_ne_zero _)
/-- After its point the device owes nothing. -/
theorem owed_succ : (dat m c).owed t0_0.succ = 0 := by
  show (if (t0_0.succ : Fin (cfg0.N + 1)).val = 0 then Ol c DL else 0) = _; exact if_neg (Nat.succ_ne_zero _)
/-- So it does when the region is left. -/
theorem owed_last : (pdats m 0 c).owed (Fin.last _) = 0 := by
  show (if (Fin.last cfg0.N).val = 0 then Ol c DL else 0) = 0
  rw [Fin.val_last, if_neg (by rw [show cfg0.N = 1 from N_0]; decide)]

/-- Owing a tally is the region's debt at a point. -/
theorem owesAt_intro (t : Fin (cfg0.N + 1)) (O : CellTallies nD τ sig Unit) (h0 : (dat m c).owed t = O) :
    iprop(∃ W, owes (c : Thread nD τ) O W) ⊢ ((dat m c).owesAt () t : sProp 𝕄) := by
  unfold Dat.owesAt Pipeline.owesWithin Dat.bound
  rw [h0, show (dat m c).recorded t = Set.univ from rfl]
  iintro ⟨%W, HO⟩; iexists W; isplitr; · ipureintro; exact fun _ _ => Or.inl trivial
  iexact HO
/-- The region's debt at a point is owing that tally. -/
theorem owesAt_elim (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-- The region stages gamma whole. -/
theorem before_gam (d) : (dat m c).before 0 t0_0 d = gamB m c := by
  unfold Dat.before
  rw [if_pos (fetch0_0 t0_0)]
  unfold Dat.fetched Dat.blockOf
  funext x
  show V₁ m c main_v1 (((cfg0.win 0).blk t0_0).view.emb x) = V₁ m c main_v1 x
  congr 1
  funext a; apply Fin.ext
  exact Pipeline.Window.rect_emb_val_of_index_zero (cfg0.win 0) t0_0 a rfl x

/-- After the region the reshaped scale is as before. -/
theorem arr_gam : (dat m c).arrAt 0 cfg0.N = V₂ m c main_v1 := by
  rw [Dat.arrAt_in _ _ rfl]
  show V₁ m c main_v1 = _
  exact (V₂_ne m c _ (by decide)).symm

/-- After the region the result array is the output put together. -/
theorem arr_out : (dat m c).arrAt 1 cfg0.N = V₂ m c main_v2 := by
  refine ((dat m c).arrAt_eq_of_after_last 1 t0_0 (by decide +kernel) _ fun j => ?_).trans (V₂_out m c).symm
  rfl

/-! ## The body's run -/

/-- A whole buffer at some contents, either way. -/
theorem any_whole (b : Ref sig .tc) : (iprop(∃ f : Buf (Elt F) ((c : Thread nD τ).loc b), ((c : Thread nD τ).loc b) ↦{fullShare} f) : sProp 𝕄)
    ⊢ ownsAny (F := F) c (Memref.whole b) := by
  unfold ownsAny
  iintro ⟨%f, H⟩
  iexists f
  iapply (Entails.of_eq (owns_whole (c : Thread nD τ) b fullShare f).symm)
  iexact H
/-- A whole buffer owned at some contents is that buffer at some contents. -/
theorem whole_any (b : Ref sig .tc) : ownsAny (F := F) c (Memref.whole b)
    ⊢ (iprop(∃ f : Buf (Elt F) ((c : Thread nD τ).loc b), ((c : Thread nD τ).loc b) ↦{fullShare} f) : sProp 𝕄) := by
  unfold ownsAny
  iintro ⟨%f, H⟩
  iexists f
  iapply (Entails.of_eq (owns_whole (c : Thread nD τ) b fullShare f))
  iexact H

/-- The gathered chunks are the gathered array at some contents. -/
theorem gath_any : iprop(sepL (fun j => ownsTc c (mGath (gOff (qo c) j)) fullShare (gv m c j)) L16
      ∗ sepL (fun j => ownsTc c (mGath (gOff (qy c) j)) fullShare (gv m (yp c) j)) L16
      ∗ sepL (fun j => ownsTc c (mGath (gOff (qz c) j)) fullShare (gv m (zp c) j)) L16
      ∗ sepL (fun j => ownsTc c (mGath (gOff (qd c) j)) fullShare (gv m (zp (yp c)) j)) L16) ⊢ ownsAny (F := F) c aGath := by
  have h := join64 c aGath (fun t => gv m (src c t.1) t.2)
  have ho : src c (qo c) = c := if_pos rfl
  have hy : src c (qy c) = yp c := by unfold src; rw [if_neg (q_ne c).1, if_pos rfl]
  have hz : src c (qz c) = zp c := by unfold src; rw [if_neg (q_ne c).2.1, if_neg (q_ne c).2.2.2.1, if_pos rfl]
  have hd : src c (qd c) = zp (yp c) := by
    unfold src; rw [if_neg (q_ne c).2.2.1, if_neg (q_ne c).2.2.2.2.1, if_neg (q_ne c).2.2.2.2.2]
  dsimp only at h
  rw [ho, hy, hz, hd] at h
  exact h.trans (toAny c aGath _)

/-- The output's chunks are the output. -/
theorem out_all : iprop(sepL (fun j => ownsTc c (mOut (gOff (qo c) j)) fullShare (ov m c j)) L16
      ∗ sepL (fun j => ownsTc c (mOut (gOff (qy c) j)) fullShare (uv m (yp c) j)) L16
      ∗ sepL (fun j => ownsTc c (mOut (gOff (qz c) j)) fullShare (uv m (zp c) j)) L16
      ∗ sepL (fun j => ownsTc c (mOut (gOff (qd c) j)) fullShare (uv m (zp (yp c)) j)) L16)
    ⊢ (ownsTc c aOut fullShare (outB m c) : sProp 𝕄) := by
  have h := join64 c aOut (outV m c)
  simp only [outV_o, outV_y, outV_z, outV_d] at h
  exact h

set_option maxHeartbeats 1000000 in
/-- The body, from the invariant before it, terminates in the invariant after it, with the staged result at the output put together. -/
theorem bodyRun : BodyObligation (dat m c) defs₀ vs () Set.univ := fun t => by
  obtain rfl := fin_N0 t
  rw [bigSep_W0, bigSep_W0]
  rw [Φ_first, Φ_last]
  rw [show (defs₀ (F := F)) Proc.tc cfg0.body (cfg0.bodyArgs t0_0 (cfg0.slots t0_0)) = bodyAt0 t0_0 from rfl]
  rw [show (cfg0.win 0).stage (cfg0.slots t0_0 0) = aGam from rfl]
  rw [show (cfg0.win 1).stage (cfg0.slots t0_0 1) = aOut from rfl]
  dsimp only
  rw [body_eq, after_gam, after_out, wp_deviceId]
  unfold Φ₀ Xk
  rw [scopedRest0_eq, hs_eq, V₁_arg0, V₁_arg1, V₁_arg2]
  iintro ⟨⟨⟨Hs0, Hs1, Hs2, Hs3, Hs4⟩, Hp, ⟨Ha0, Ha1, Ha2⟩, ⟨%κ, #HC, Hat, Hl⟩⟩, HO, ⟨%d0, Hg⟩, ⟨%d1, Ho⟩⟩
  rw [before_gam]
  ihave HO := (owesAt_elim m c _ _ (owed_first m c)) $$ HO
  ihave Ha0 := (part_split m c).1 $$ Ha0
  icases Ha0 with ⟨Hpart, Hpr⟩
  ihave Ha1 := (res_split m c).1 $$ Ha1
  icases Ha1 with ⟨Hres, Hrr⟩
  iapply (bodyW m κ c _)
  isplitr; · iexact HC
  isplitl [Hs0 Hs1 Hs2 Hs3 Hs4 Hpart Hres Hg Ho Hat Hl]
  · unfold start
    isplitl [Hpart Hres Hg]
    · isplitl [Hpart]; · iexact Hpart
      isplitl [Hres]; · iexact Hres
      iexact Hg
    isplitl [Hs0 Hs1 Hs2 Hs3]
    · isplitl [Hs0]; · iapply (split16 c aPloc); iapply (any_whole c cc0_scratch0); iexact Hs0
      isplitl [Hs1]; · iapply (any_whole c cc0_scratch1); iexact Hs1
      isplitl [Hs2]; · iapply (split16 c aPbf); iapply (any_whole c cc0_scratch2); iexact Hs2
      iapply (split16 c aRecv); iapply (any_whole c cc0_scratch3); iexact Hs3
    isplitl [Hs4]; · iapply (split64 c aGath); iapply (any_whole c cc0_scratch4); iexact Hs4
    isplitl [Ho]; · iapply (split64 c aOut); iapply (toAny c aOut _); iexact Ho
    isplitl [Hat]; · iexact Hat
    unfold lin; iexact Hl
  isplitl [HO]; · unfold ow; iexact HO
  unfold finish
  iintro ⟨⟨Hpart, Hres, Hg⟩, ⟨Hs0, Hs1, Hs2, Hs3⟩, Hs4, Ho, Hat, Hb, HO⟩
  ihave #HR := (ctx_records m κ c) $$ HC
  unfold W
  rw [wp_ret]
  imod (hclose m c κ) $$ [Hat Hb] with ⟨Hos, Hb⟩
  · isplitr; · iexact HR
    isplitl [Hat]; · iexact Hat
    iexact Hb
  imodintro
  isplitr [HO Hg Ho]
  · unfold Φ₁ Yk
    rw [scopedRest0_eq, hs_eq, V₁_arg0, V₁_arg1, V₁_arg2, ownSems_eq]
    isplitl [Hs0 Hs1 Hs2 Hs3 Hs4]
    · isplitl [Hs0]; · iapply (whole_any c cc0_scratch0); iapply (join16 c aPloc _); iexact Hs0
      isplitl [Hs1]; · iapply (whole_any c cc0_scratch1); iapply (toAny c aRloc _); iexact Hs1
      isplitl [Hs2]; · iapply (whole_any c cc0_scratch2); iapply (join16 c aPbf _); iexact Hs2
      isplitl [Hs3]; · iapply (whole_any c cc0_scratch3); iapply (join16 c aRecv _); iexact Hs3
      iapply (whole_any c cc0_scratch4); iapply (gath_any m c); iexact Hs4
    isplitl [Hp]; · iexact Hp
    isplitl [Hpart Hres Hpr Hrr Ha2]
    · isplitl [Hpart Hpr]
      · iapply (part_split m c).2
        isplitl [Hpart]; · iexact Hpart
        iexact Hpr
      isplitl [Hres Hrr]
      · iapply (res_split m c).2
        isplitl [Hres]; · iexact Hres
        iexact Hrr
      iexact Ha2
    isplitl [Hos]; · iexact Hos
    iexact Hb
  isplitl [HO]; · iapply (owesAt_intro m c _ _ (owed_succ m c)); unfold ow; iexact HO
  isplitl [Hg]; · iexact Hg
  iapply (out_all m c); iexact Ho

end Cert.KernelIdeal.Run

end
-- ==== Proof.Launch.lean ====
module

public import proofs.«01_k».proof.Proof.Region

/-! The launch: every cell's invariant, its tokens and its credit dealt to the devices, and the run of the whole program. -/

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The buffers the host's operations run over -/

/-- The buffers that live through the whole run. -/
def bufs : Finset (DevRef τ sig) := (StableHlo.tcRefs τ sig).filter fun b => ¬ b.isScoped

/-- Owning them is holding them at their contents. -/
theorem unscopedBufs_held (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- They are the three arguments, the reshaped scale and the result. -/
theorem bufs_eq (W : Valuation τ sig (Elt F)) : (StableHlo.held (c : Thread nD τ) bufs W : sProp 𝕄)
    = iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_v1 ↦{fullShare} W main_v1)
      ∗ ((c : Thread nD τ).loc main_v2 ↦{fullShare} W main_v2)) := by
  unfold StableHlo.held
  rw [bigSep_eq_bigSepL_of_eq [Proc.devRef .tc main_arg0, Proc.devRef .tc main_arg1, Proc.devRef .tc main_arg2, Proc.devRef .tc main_v1,
    Proc.devRef .tc main_v2] (by decide) (by decide)]
  rfl

/-- The arrays the region stages are the reshaped scale and the result. -/
theorem arrs_eq (W : Valuation τ sig (Elt F)) : (StableHlo.held (c : Thread nD τ) (Pipeline.arrRefs (τ := τ) spec0) W : sProp 𝕄)
    = iprop(((c : Thread nD τ).loc main_v1 ↦{fullShare} W main_v1) ∗ ((c : Thread nD τ).loc main_v2 ↦{fullShare} W main_v2)) := by
  unfold StableHlo.held
  rw [bigSep_eq_bigSepL_of_eq [Proc.devRef .tc main_v1, Proc.devRef .tc main_v2] (by decide) (by decide)]
  rfl

/-- The one counter that lives through the whole run is the barrier's. -/
theorem unscopedSems0_eq : (unscopedSems0 c : sProp 𝕄) = semVal (barCell c) 0 := by
  unfold unscopedSems0
  rw [show (Finset.univ.filter fun sm : SemLoc sig => ¬ sm.isScoped .tc) = {SemLoc.reg semB} from by decide +kernel, BI.bigSep_singleton]

/-! ## The segments -/

/-- What rides beside the buffers up to the region. -/
def R : sProp 𝕄 := iprop(Tk m c ∗ (∃ r, prngReg c r) ∗ ow c DL)

/-- The host's operations touch only those buffers. -/
theorem ops_sub : ∀ op ∈ (hostOps0 : List (HloOp τ sig (Elt F))), op.bufs ⊆ bufs := fun op h => by
  simp only [hostOps0, List.mem_singleton] at h; subst h
  show ({Proc.devRef .tc main_arg2, Proc.devRef .tc main_v1} : Finset (DevRef τ sig)) ⊆ bufs; decide
/-- They make no new buffer. -/
theorem ops_fresh : ∀ op ∈ (hostOps0 : List (HloOp τ sig (Elt F))), op.fresh = ∅ := fun op h => by
  simp only [hostOps0, List.mem_singleton] at h; subst h; rfl

local notation "ℍ" => Pipeline.HostSeg (Name := ℕ) (U := UU) (pcfgs (F := F)) defs₀ vs L lv

/-- The host's reshape. -/
def seg0 : ℍ := Pipeline.HostSeg.ofOps _ _ _ _ _ bufs hostOps0 ops_sub ops_fresh (V₀ m) (R m)

/-- The facts about the staging that the launch asks for. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The kernel's own semaphores are its own: scoped, different from each other and from the staging ones. -/
theorem osemFacts : Pipeline.OwnSemFacts spec0 osem where
  isScoped k := by
    have h : ∀ k ∈ allK, (osem k).isScoped .tc = true := by decide +kernel
    exact h k (allK_mem k)
  inj k k' h := sm_inj (SemLoc.dma.inj h)
  disj k w s := by
    have h : ∀ k ∈ allK, ∀ w : Fin 2, ∀ s : Fin (spec0 w).nbuf, osem k ≠ .dma ((spec0 w).sem s) := by decide +kernel
    exact h k (allK_mem k) w s

/-- Every debt of the body is above the level of the staging cells. -/
theorem dLv_pos (x : Db) (h : x ∈ DL) : 0 < dLv x := by
  have h' : ∀ x ∈ DL, 0 < dLv x := by decide +kernel
  exact h' x h

/-- So the staging waits never wait on what is owed. -/
theorem cut : Pipeline.LevelCutOwed (pcfgs (F := F)) adm (pdats m) () L lv 0 (fun _ => 0) where
  hι c w s := by rw [L_tc]; exact Finset.mem_singleton_self _
  hιb c w s := by
    have h : ∀ w : Fin 2, ∀ s : Fin (spec0 w).nbuf, dec ((spec0 w).sem s) = none := by decide +kernel
    show lv ((c : Thread nD τ), .dma ((spec0 w).sem s)) () ≤ 0
    unfold lv; dsimp only; rw [h]
  hD c t g i h := by
    have e : (pdats (F := F) m 0 c).owed t = if t.val = 0 then Ol c DL else 0 := rfl
    rw [e] at h
    split at h
    · obtain ⟨x, hx, rfl⟩ := Ol_pos c g i DL h
      exact ⟨by rw [L_tgt]; exact Finset.mem_singleton_self _, by rw [lv_tgt]; exact dLv_pos x hx⟩
    · exact absurd h (Nat.lt_irrefl 0)

/-- What the region is entered with is the invariant before the body. -/
theorem hin : iprop(Pipeline.scopedRest (Pipeline.pin (pcfgs (F := F)) adm 0).spec c ∗ (∃ r, prngReg c r)
      ∗ StableHlo.held (c.tc : Thread nD τ) hs (V₁ m c) ∗ Xk m c) ⊢ (pdats m 0 c).Φ 0 := by
  rw [show (pdats m 0 c).Φ 0 = Φ₀ m c from Φ_first m c]
  unfold Φ₀
  exact BI.Entails.refl _

/-- The arguments are held alike before the region and after it. -/
theorem held_hs : (StableHlo.held (c.tc : Thread nD τ) hs (V₂ m c) : sProp 𝕄) = StableHlo.held (c.tc : Thread nD τ) hs (V₁ m c) := by
  rw [hs_eq, hs_eq, V₂_ne m c (Proc.devRef .tc main_arg0) (by decide), V₂_ne m c (Proc.devRef .tc main_arg1) (by decide),
    V₂_ne m c (Proc.devRef .tc main_arg2) (by decide)]

/-- The invariant after the body is what the region leaves. -/
theorem hout : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) hs (V₂ m c) ∗ Pipeline.ownSems0 osem c ∗ Yk c) := by
  rw [show (pdats m 0 c).Φ (Fin.last _) = Φ₁ m c from Φ_last m c, held_hs]
  unfold Φ₁
  exact BI.Entails.refl _

set_option backward.isDefEq.respectTransparency.types false in
/-- The kernel's region. -/
def reg0 : Pipeline.RegionSeg (pcfgs (F := F)) adm (pdats m) () defs₀ vs L lv 0 :=
  Pipeline.RegionSeg.ofTalk (pcfgs (F := F)) adm (pdats m) () defs₀ vs L lv 0 osem osemFacts
    hs hs (Finset.Subset.refl _) kitP rfl (fun c => (bodyRun m c).loose)
    (fun _ => 0) (fun c => Ol c DL) (fun c => (owed_zero m c).trans (zero_add _).symm) (owed_last m) (fun _ => rfl) (fun c => fun | 0 => rfl | 1 => rfl | ⟨_ + 2, h⟩ => absurd h (Nat.not_lt.2 (Nat.le_add_left _ _)))
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0) (cut m)
    (fun _ => iprop(emp))
    (fun c => fun | 0 => rfl | 1 => rfl | ⟨_ + 2, h⟩ => absurd h (Nat.not_lt.2 (Nat.le_add_left _ _)))
    (fun c => fun | 0 => arr_gam m c | 1 => arr_out m c | ⟨_ + 2, h⟩ => absurd h (Nat.not_lt.2 (Nat.le_add_left _ _)))

/-- What is held after the host's operations is what the region asks for. -/
theorem reg0_pre : iprop(StableHlo.held (c : Thread nD τ) bufs (V₁ m c) ∗ R m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) hs (V₁ m c) ∗ emp) ∗ Tk m c ∗ ∃ Wd, owes (c : Thread nD τ) (0 + Ol c DL) Wd)
  rw [arrs_eq, hs_eq, bufs_eq, zero_add]
  unfold R ow
  iintro ⟨⟨H0, H1, H2, H3, H4⟩, HT, Hp, HO⟩
  isplitl [H3 H4]
  · isplitl [H3]; · iexact H3
    iexact H4
  isplitl [Hp]; · iexact Hp
  isplitl [H0 H1 H2]
  · isplitl [H0 H1 H2]
    · isplitl [H0]; · iexact H0
      isplitl [H1]; · iexact H1
      iexact H2
    iempintro
  isplitl [HT]; · iexact HT
  iexact HO

/-- What a device ends with. -/
def Tₙ : sProp 𝕄 := iprop((((c : Thread nD τ).loc main_arg0 ↦{fullShare} m ((c : Thread nD τ).loc main_arg0))
    ∗ ((c : Thread nD τ).loc main_arg1 ↦{fullShare} m ((c : Thread nD τ).loc main_arg1))
    ∗ ((c : Thread nD τ).loc main_arg2 ↦{fullShare} m ((c : Thread nD τ).loc main_arg2))
    ∗ ((c : Thread nD τ).loc main_v2 ↦{fullShare} outB m c)) ∗ semVal (barCell c) 0)

/-- What the region leaves is what is held at the end, with nothing owed. -/
theorem reg0_post : (reg0 m).post c ⊢ iprop(Tₙ m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) hs (V₂ m c) ∗ emp) ∗ Yk c ∗ ∃ Wd, owes (c : Thread nD τ) (0 : CellTallies nD τ sig Unit) Wd) ⊢ _
  rw [arrs_eq, held_hs, hs_eq, V₁_arg0, V₁_arg1, V₁_arg2, V₂_out]
  unfold Yk Tₙ
  iintro ⟨⟨-, H4⟩, -, ⟨⟨H0, H1, H2⟩, -⟩, Hb, HO⟩
  isplitr [HO]
  · isplitr [Hb]
    · isplitl [H0]; · iexact H0
      isplitl [H1]; · iexact H1
      isplitl [H2]; · iexact H2
      iexact H4
    iexact Hb
  iexact HO

/-- @main as the list. -/
def segs : List (Pipeline.Seg (pcfgs (F := F)) adm (pdats m) () defs₀ vs L lv) := [.host (seg0 m), .region (reg0 m)]

/-- The program is its segments, in order. -/
theorem main_eq : main (F := F) c = Pipeline.Seg.run (segs m) :=
  main_segs adm (pdats m) () vs L lv (seg0 m) (reg0 m) rfl c

/-! ## The launch element -/

/-- Every duty's token: of the copies, and of the barrier's signals. -/
def toksK : Finset (GSem nD τ sig × ℕ × Fin 3) := Finset.univ.map ⟨fun x : Dev nD × Kd => (cell x.1 x.2, 0, 0), fun x y h => by
  have h0 := congrArg (fun t : GSem nD τ sig × ℕ × Fin 3 => t.1) h
  have h1 : x.1 = y.1 := congrArg (fun g : GSem nD τ sig => g.1.1) h0
  have h2 : SemLoc.dma (sm x.2) = .dma (sm y.2) := congrArg (fun g : GSem nD τ sig => g.2) h0
  exact Prod.ext h1 (sm_inj (SemLoc.dma.inj h2))⟩
/-- The tokens of the barrier's signals. -/
def toksB : Finset (GSem nD τ sig × ℕ × Fin 3) := Finset.univ.map ⟨fun x : Dev nD × Fin 3 => (barCell x.1, 0, x.2), fun x y h => by
  have h0 := congrArg (fun t : GSem nD τ sig × ℕ × Fin 3 => t.1) h
  have h1 : x.1 = y.1 := congrArg (fun g : GSem nD τ sig => g.1.1) h0
  have h2 : x.2 = y.2 := congrArg (fun t : GSem nD τ sig × ℕ × Fin 3 => t.2.2) h
  exact Prod.ext h1 h2⟩
/-- No token is both a copy's and a signal's. -/
theorem toks_disj : Disjoint toksK toksB := by
  rw [Finset.disjoint_left]
  intro t h h'
  obtain ⟨x, -, rfl⟩ := Finset.mem_map.mp h
  obtain ⟨y, -, e⟩ := Finset.mem_map.mp h'
  have := congrArg (fun t : GSem nD τ sig × ℕ × Fin 3 => t.1.2) e
  cases this
/-- All the tokens. -/
abbrev allToks : Finset (GSem nD τ sig × ℕ × Fin 3) := toksK ∪ toksB

/-- The staging cells' part, and the kernel's. -/
def u₀ : UU :=
  (initOf (Pipeline.cells (Pipeline.pin (pcfgs (F := F)) adm) cellOf_inj) (Pipeline.launchToks (Pipeline.pin (pcfgs (F := F)) adm) cellOf_inj),
    launchOf barCells scCells allToks)

/-- All of a resource on one device. -/
def onDev (c₀ : Dev nD) (X : sProp (MT nD τ sig Unit (Elt F) ℕ UU ℕ)) (c : Dev nD) : sProp 𝕄 := if c = c₀ then X else iprop(emp)
/-- Over all devices, a resource that lies on one is that resource. -/
theorem bigSep_onDev (c₀ : Dev nD) (X : sProp (MT nD τ sig Unit (Elt F) ℕ UU ℕ)) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact eqv Laws.sep_emp

/-- The kernel's launch element, kept on the first device. -/
def G : Dev nD → sProp (MT nD τ sig Unit (Elt F) ℕ UU ℕ) := onDev 0 (BI.own (ER (launchOf barCells scCells allToks)))

/-! ## The tokens, each to the device that pays with it -/

/-- The device that a copy to this one comes from is the one its own copy of that kind goes to. -/
theorem dst_dst (k : Kd) (c : Dev nD) : dstK k (dstK k c) = c := by
  cases k <;> first | exact xx c | exact yy c | exact zz c | rfl
/-- The peer of a peer is the device. -/
theorem peer_peer (i : Fin 3) (c : Dev nD) : peer i (peer i c) = c := by
  match i with
  | 0 => exact xx c
  | 1 => exact yy c
  | 2 => exact zz c

/-- The tokens, dealt: each device gets those it pays with. -/
theorem toks_deal : bigSep allToks (fun x => (dutyTok ER x.1 x.2.1 x.2.2 : sProp 𝕄))
    ⊢ bigSep Finset.univ fun c : Dev nD => iprop(bigSep Finset.univ (tk c) ∗ sepL (fun i => dutyTok ER (barCell (peer i c)) 0 i) [0, 1, 2]) := by
  have hK : bigSep toksK (fun x => (dutyTok ER x.1 x.2.1 x.2.2 : sProp 𝕄)) = bigSep Finset.univ fun c : Dev nD => bigSep Finset.univ (tk c) := by
    unfold toksK
    rw [bigSep_map, bigSep_univ_prod, bigSep_univ_comm]
    rw [bigSep_univ_comm (fun (c : Dev nD) (k : Kd) => tk (F := F) c k)]
    exact bigSep_congr fun k _ => bigSep_univ_equiv ⟨dstK k, dstK k, dst_dst k, dst_dst k⟩ (fun c : Dev nD => tok (F := F) c k)
  have hB : bigSep toksB (fun x => (dutyTok ER x.1 x.2.1 x.2.2 : sProp 𝕄))
      = bigSep Finset.univ fun c : Dev nD => sepL (fun i => dutyTok ER (barCell (peer i c)) 0 i) [0, 1, 2] := by
    unfold toksB
    rw [bigSep_map, bigSep_univ_prod, bigSep_univ_comm]
    have e (c : Dev nD) : (sepL (fun i => dutyTok ER (barCell (peer i c)) 0 i) [0, 1, 2] : sProp 𝕄)
        = bigSep Finset.univ fun i : Fin 3 => dutyTok ER (barCell (peer i c)) 0 i :=
      (bigSep_univ_list _ [0, 1, 2] (by decide) (by decide)).symm
    rw [show (fun c : Dev nD => (sepL (fun i => dutyTok ER (barCell (peer i c)) 0 i) [0, 1, 2] : sProp 𝕄)) = _ from funext e,
      bigSep_univ_comm (fun (c : Dev nD) (i : Fin 3) => (dutyTok ER (barCell (peer i c)) 0 i : sProp 𝕄))]
    exact bigSep_congr fun i _ => bigSep_univ_equiv ⟨peer i, peer i, peer_peer i, peer_peer i⟩
      (fun c : Dev nD => (dutyTok ER (barCell c) 0 i : sProp 𝕄))
  rw [bigSep_union toks_disj, hK, hB]
  exact pairU

/-! ## The launch credit -/

/-- What a device is credited for a debt its peers have to it. -/
def crDb (c : Dev nD) : Db → sProp 𝕄 | .b i => cred (tallyAt (barCell c) () 1) | .k k => crd c k

/-- A device is credited, one by one, what its peers owe it along a list. -/
theorem creds_list : ∀ l : List Db, (Pipeline.launchCred (fun d => Ol d l) c : sProp 𝕄) ⊢ sepL (crDb c) l
  | [] => by
    show (Pipeline.launchCred (fun _ : Dev nD => (0 : CellTallies nD τ sig Unit)) c : sProp 𝕄) ⊢ _
    rw [Pipeline.launchCred_zero]; exact BI.Entails.refl _
  | x :: l => by
    show (Pipeline.launchCred (fun d => Ol d l + tallyAt (tgt d x) () (dAmt x)) c : sProp 𝕄) ⊢ iprop(crDb c x ∗ sepL (crDb c) l)
    rw [Pipeline.launchCred_add]
    have hx : (Pipeline.launchCred (fun d => tallyAt (tgt d x) () (dAmt x)) c : sProp 𝕄) ⊢ crDb c x := by
      cases x with
      | b i => exact Pipeline.launchCred_tallyAt (.reg semB) (peer i) (peer i) (peer_peer i) (peer_peer i) () 1 c
      | k k => exact Pipeline.launchCred_tallyAt (.dma (sm k)) (dstK k) (dstK k) (dst_dst k) (dst_dst k) () (amt k) c
    iintro ⟨Hl, Hx⟩
    isplitl [Hx]
    · iapply hx; iexact Hx
    iapply (creds_list l); iexact Hl

/-- The credits along a list of single debts. -/
theorem sepL_flat1 {ι : Type} (f : ι → Db) : ∀ l : List ι, sepL (crDb (F := F) c) (l.flatMap fun j => [f j]) = sepL (fun j => crDb c (f j)) l
  | [] => rfl
  | j :: l => by
    show iprop(crDb c (f j) ∗ sepL (crDb c) (l.flatMap fun j => [f j])) = _
    rw [sepL_flat1 f l]; rfl
/-- The credits along a list of pairs of debts. -/
theorem sepL_flat2 {ι : Type} (f g : ι → Db) : ∀ l : List ι, sepL (crDb (F := F) c) (l.flatMap fun j => [f j, g j])
    = iprop(sepL (fun j => crDb c (f j)) l ∗ sepL (fun j => crDb c (g j)) l)
  | [] => (eqv Laws.emp_sep).symm
  | j :: l => by
    show iprop(crDb c (f j) ∗ crDb c (g j) ∗ sepL (crDb c) (l.flatMap fun j => [f j, g j]))
      = iprop((crDb c (f j) ∗ sepL (fun j => crDb c (f j)) l) ∗ (crDb c (g j) ∗ sepL (fun j => crDb c (g j)) l))
    rw [sepL_flat2 f g l, ← eqv Laws.sep_assoc, eqv sep_sep_sep_comm]

/-- A device's credit at launch: three units of its barrier, and every chunk that its peers send it. -/
theorem creds : (Pipeline.launchCred (fun d => Ol d DL) c : sProp 𝕄)
    ⊢ iprop(cred (tallyAt (barCell c) () 3) ∗ (sepL (fun j => crd c (.xr j)) L16 ∗ sepL (fun j => crd c (.yr j)) L16
      ∗ sepL (fun j => crd c (.zr j)) L16 ∗ sepL (fun j => crd c (.fr j)) L8 ∗ sepL (fun j => crd c (.gr j)) L8)) := by
  refine (creds_list c DL).trans ?_
  unfold DL
  rw [sepL_append, sepL_append, sepL_append, sepL_append, sepL_append, sepL_flat1, sepL_flat2, sepL_flat1, sepL_flat1]
  show iprop((cred (tallyAt (barCell c) () 1) ∗ cred (tallyAt (barCell c) () 1) ∗ cred (tallyAt (barCell c) () 1) ∗ emp)
    ∗ sepL (fun j => crd c (.xr j)) L16 ∗ (sepL (fun j => crd c (.yr j)) L16 ∗ sepL (fun j => crd c (.zr j)) L16)
    ∗ sepL (fun j => crd c (.fr j)) L8 ∗ sepL (fun j => crd c (.gr j)) L8 ∗ emp) ⊢ _
  rw [show (tallyAt (barCell c) () 3 : CellTallies nD τ sig Unit)
    = tallyAt (barCell c) () 1 + (tallyAt (barCell c) () 1 + tallyAt (barCell c) () 1) from by rw [tallyAt_add, tallyAt_add]]
  iintro ⟨⟨H1, H2, H3, -⟩, Hx, ⟨Hy, Hz⟩, Hf, Hg, -⟩
  isplitl [H1 H2 H3]
  · iapply (cred_add _ _).2
    isplitl [H1]; · iexact H1
    iapply (cred_add _ _).2
    isplitl [H2]; · iexact H2
    iexact H3
  isplitl [Hx]; · iexact Hx
  isplitl [Hy]; · iexact Hy
  isplitl [Hz]; · iexact Hz
  isplitl [Hf]; · iexact Hf
  iexact Hg

/-! ## The run -/

/-- What a device starts its program with. -/
abbrev T₀ : sProp 𝕄 := iprop(StableHlo.held (c : Thread nD τ) bufs (V₀ m c) ∗ R m c)

/-- What stays with a device of the kernel's part, and the rest of what it starts with. -/
def linear : sProp 𝕄 := iprop(atPos ER (barCell c) 0 ∅ 0 ∗ bigSep Finset.univ (fun k => openTok ER (cell c k))
  ∗ bigSep Finset.univ (tk c) ∗ sepL (fun i => dutyTok ER (barCell (peer i c)) 0 i) [0, 1, 2])
/-- The rest: its buffers, its credit, its debts and its random state. -/
def bundle : sProp 𝕄 := iprop(StableHlo.held (c : Thread nD τ) bufs (V₀ m c)
  ∗ (cred (tallyAt (barCell c) () 3) ∗ (sepL (fun j => crd c (.xr j)) L16 ∗ sepL (fun j => crd c (.yr j)) L16
      ∗ sepL (fun j => crd c (.zr j)) L16 ∗ sepL (fun j => crd c (.fr j)) L8 ∗ sepL (fun j => crd c (.gr j)) L8))
  ∗ owes (c : Thread nD τ) (Ol c DL) ∅ ∗ ∃ r, prngReg c r)

/-- The two, with the records of the cells, are what a device starts with. -/
theorem T₀_intro (κ : GSem nD τ sig → ℕ) : iprop(records m κ ∗ (linear c ∗ bundle m c)) ⊢ T₀ m c := by
  unfold linear bundle T₀ R Tk lin ow
  iintro ⟨#HR, ⟨Ha, Ho, Ht, Hb⟩, Hh, ⟨H3, Hc⟩, HO, Hp⟩
  isplitl [Hh]; · iexact Hh
  isplitr [HO Hp]
  · iexists κ
    isplitr; · iexact HR
    isplitl [Ho]; · iexact Ho
    isplitl [Ht]; · iexact Ht
    isplitr [Hc]
    · isplitl [Hb]; · iexact Hb
      isplitl [H3]; · iexact H3
      iexact Ha
    iexact Hc
  isplitl [Hp]; · iexact Hp
  iexists ∅; iexact HO

/-- What the launch gives a device is that rest, its barrier counter and its share of the launch element. -/
theorem init_core : iprop(unscopedBufs c (fun b => m ((c : Thread nD τ).loc b)) ∗ unscopedSems0 c
        ∗ owes (c : Thread nD τ) (Ol c DL) ∅ ∗ Pipeline.launchCred (fun d => Ol d DL) c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (V₀ m c) from unscopedBufs_held c (V₀ m c),
      unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus]; · iexact Hus
    iexact HG
/-- The devices' barrier counters are the barrier cells' counters. -/
theorem init_v : bigSep Finset.univ (fun c : Dev nD => (semVal (barCell c) 0 : sProp 𝕄)) ⊢ bigSep barCells (fun g => (semVal g 0 : sProp 𝕄)) :=
    Entails.of_eq (by unfold barCells; rw [bigSep_map]; rfl)
/-- The positions in the barrier cells, device by device. -/
theorem init_at : bigSep barCells (fun g => (atPos ER g 0 ∅ 0 : sProp 𝕄)) ⊢ bigSep Finset.univ (fun c : Dev nD => (atPos ER (barCell c) 0 ∅ 0 : sProp 𝕄)) :=
    Entails.of_eq (by unfold barCells; rw [bigSep_map]; rfl)
/-- The tokens that open the other cells, device by device and kind by kind. -/
theorem init_op : bigSep scCells (fun g => (openTok ER g : sProp 𝕄))
      ⊢ bigSep Finset.univ (fun c : Dev nD => bigSep Finset.univ fun k : Kd => (openTok ER (cell c k) : sProp 𝕄)) :=
    Entails.of_eq (by unfold scCells; rw [bigSep_map, bigSep_univ_prod]; rfl)
/-- The shares of the launch element are the launch element. -/
theorem init_u : bigSep Finset.univ (G (F := F)) ⊢ BI.own (ER (launchOf barCells scCells allToks)) :=
  Entails.of_eq (bigSep_onDev (F := F) 0 (BI.own (ER (launchOf barCells scCells allToks))))

/-- From the barrier counters at zero and the launch element: the records, the positions, the opening tokens and the duty tokens. -/
theorem init_fund : iprop(bigSep barCells (fun g => (semVal g 0 : sProp 𝕄)) ∗ BI.own (ER (launchOf barCells scCells allToks)))
    ⊢ (|={Set.univ}=> iprop((∃ κ, records m κ) ∗ bigSep barCells (fun g => (atPos ER g 0 ∅ 0 : sProp 𝕄))
      ∗ bigSep scCells (fun g => (openTok ER g : sProp 𝕄)) ∗ bigSep allToks (fun x => (dutyTok ER x.1 x.2.1 x.2.2 : sProp 𝕄))) : sProp 𝕄) := by
  iintro ⟨Hv, Hu⟩
  imod (Rounds.fund_launch ER (Rd m) disjoint_cells (fun g _ h => h) allToks) $$ [Hv Hu] with ⟨%κ, -, #Hinv, #Hr, Hat, Hopen, Htok⟩
  · isplitl [Hv]
    · iexact Hv
    · iexact Hu
  imodintro
  isplitr
  · iexists κ
    unfold records
    isplitr; · iexact Hinv
    iexact Hr
  isplitl [Hat]; · iexact Hat
  isplitl [Hopen]; · iexact Hopen
  iexact Htok

/-- What the launch gives, on all devices. -/
theorem init_all : (bigSep Finset.univ fun c : Dev nD => iprop(unscopedBufs c (fun b => m ((c : Thread nD τ).loc b)) ∗ unscopedSems0 c
          ∗ owes (c : Thread nD τ) (Ol c DL) ∅ ∗ Pipeline.launchCred (fun d => Ol d DL) c ∗ prngReg c (ρ c) ∗ G c))
      ⊢ (bigSep Finset.univ fun c : Dev nD => iprop(bundle m c ∗ (semVal (barCell c) 0 ∗ G c)) : sProp 𝕄) :=
  bigSep_mono fun c _ => init_core m ρ c

/-- The positions, the opening tokens and the dealt tokens, put together on each device. -/
theorem init_linear : iprop(bigSep Finset.univ (fun c : Dev nD => (atPos ER (barCell c) 0 ∅ 0 : sProp 𝕄))
      ∗ bigSep Finset.univ (fun c : Dev nD => bigSep Finset.univ fun k : Kd => (openTok ER (cell c k) : sProp 𝕄))
      ∗ bigSep Finset.univ fun c : Dev nD => iprop(bigSep Finset.univ (tk c) ∗ sepL (fun i => dutyTok ER (barCell (peer i c)) 0 i) [0, 1, 2]))
    ⊢ (bigSep Finset.univ fun c : Dev nD => linear c : sProp 𝕄) :=
  (BIClass.sep_mono (BI.Entails.refl _) pairU).trans pairU

/-- With the records, every device has what it starts with. -/
theorem init_end (κ : GSem nD τ sig → ℕ) : iprop(records m κ ∗ (bigSep Finset.univ fun c : Dev nD => linear (F := F) c) ∗ bigSep Finset.univ (bundle m))
    ⊢ (bigSep Finset.univ (T₀ m) : sProp 𝕄) :=
  (BIClass.sep_mono (BI.Entails.refl _) pairU).trans
    (bigSep_with_persistent (R := records m κ) (Φ := fun c => iprop(linear c ∗ bundle m c)) fun c _ => T₀_intro m c κ)

/-- What the launch gives all devices becomes what each starts with. -/
theorem init :
    iprop((bigSep Finset.univ fun c : Dev nD => iprop(unscopedBufs c (fun b => m ((c : Thread nD τ).loc b)) ∗ unscopedSems0 c
          ∗ owes (c : Thread nD τ) (Ol c DL) ∅ ∗ Pipeline.launchCred (fun d => Ol d DL) c ∗ prngReg c (ρ c) ∗ G c)) ∗ levAts L lv)
      ⊢ (|={Set.univ}=> bigSep Finset.univ (T₀ m) : sProp 𝕄) := by
  iintro ⟨H, -⟩
  ihave H' := (init_all m ρ) $$ H
  ihave H2 := unpairU $$ H'; icases H2 with ⟨HB, H3⟩
  ihave H4 := unpairU $$ H3; icases H4 with ⟨Hv, HG⟩
  ihave Hu := (init_u (F := F)) $$ HG
  ihave Hv := (init_v (F := F)) $$ Hv
  imod (init_fund m) $$ [Hv Hu] with ⟨⟨%κ, #HR⟩, Hat, Hopen, Htok⟩
  · isplitl [Hv]; · iexact Hv
    iexact Hu
  imodintro
  iapply (init_end m κ)
  isplitr; · iexact HR
  isplitr [HB]
  · iapply (init_linear (F := F))
    isplitl [Hat]; · iapply (init_at (F := F)) $$ Hat
    isplitl [Hopen]; · iapply (init_op (F := F)) $$ Hopen
    iapply (toks_deal (F := F)) $$ Htok
  · iexact HB

/-- A semaphore that lives through the whole run is the barrier. -/
theorem unscoped_eq : ∀ sm : SemLoc sig, sm.isScoped .tc = false → sm = .reg semB := by decide +kernel

set_option backward.isDefEq.respectTransparency.types false in
/-- From any memory, with every counter at zero, every weakly fair execution of @main on the devices terminates, and every
    final state has the arguments unchanged, the output at what `outB` states, and every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v2) = outB m c) ∧ r.2.sem = fun _ => 0) :=
  Pipeline.θ_run_regions_kit_sems (pcfgs (F := F)) adm (pdats m) () cellOf_inj EP defs₀ vs L lv m ρ main (segs m)
    (fun c Q => by rw [main_eq m c])
    (by simp only [segs, Pipeline.Seg.pipes_host, Pipeline.Seg.pipes_region, Pipeline.Seg.pipes_nil]; decide)
    (O₀ := fun c => Ol c DL) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2)
        ∧ s.mem ((c : Thread nD τ).loc main_v2) = outB m c) ∧ s.sem (barCell c) = 0)
    (hfin := fun c s' => by
      dsimp only [Tₙ]
      iintro ⟨⟨⟨H0, H1, H2, H4⟩, Hb0⟩, HSI⟩
      icombine HSI H0 gives %h0
      icombine HSI H1 gives %h1
      icombine HSI H2 gives %h2
      icombine HSI H4 gives %h4
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h4⟩, by simpa using hb⟩
      iexact HSI)
    (hQ := fun s h hs => ⟨fun c => (h c).1,
      sem_eq_zero hs fun c sm hsm => by
        obtain rfl := unscoped_eq sm hsm
        exact (h c).2⟩)

end Cert.KernelIdeal.Run

end
-- ==== Proof.Frames.lean ====
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

/-! The three frames: each program runs, leaves its arguments unchanged and every counter at zero. -/

@[expose] public section

noncomputable section

namespace Cert.Proof

open Idealize.ShloMosaic Idealize.ShloMosaic.TcCoe Idealize.SL.Sem

/-- The kernel at any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) :=
  (θ_run Cert.KernelIdeal.defs _ _).mono (fun _ h => ⟨fun c => ⟨(h.1 c).1, (h.1 c).2.1, (h.1 c).2.2.1⟩, h.2⟩)
    (Cert.KernelIdeal.Run.run_main m ρ)

/-- The two body tables are one text. -/
theorem table_eq : Cert.Kernel.defs₀ (F := Bits) = Cert.KernelIdeal.defs₀ (F := Bits) :=
  congrArg Defs.onTc (funext fun l => funext fun x => match l, x with
    | 0, _ => rfl
    | ⟨_ + 1, h⟩, _ => absurd h (Nat.not_lt.2 (Nat.le_add_left _ _)))
/-- So the two tables of the launch are one. -/
theorem defs_eq : Cert.Kernel.defs (F := Bits) = Cert.KernelIdeal.defs (F := Bits) :=
  congrArg (Pipeline.defs (Cert.Kernel.pcfgs (F := Bits))) table_eq

/-- The kernel read at the machine's floats: the run at any float values, taken there. -/
theorem frame_kernel : Cert.quiescent_Kernel := fun m ρ _ => by
  rw [defs_eq]
  exact frame_any (F := Bits) m ρ

/-- The kernel read at the extended reals. -/
theorem frame_kernelIdeal : Cert.quiescent_KernelIdeal := fun m ρ _ => frame_any (F := Ideal) m ρ

/-- The reference, which has no semaphore. -/
theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Proof

end
-- ==== Proof.Row.lean ====
module

public import Idealize.ShloMosaic.PureOps.Ideal
public import Idealize.ShloMosaic.Lib.IdealHost

/-! The normalisation of one row over the extended reals: the product with the reciprocal root is the quotient by the root. -/

@[expose] public section

noncomputable section

namespace Cert.Proof.Row

open Idealize.ShloMosaic

/-- The mean of a row's squares, and the constant added to it. -/
def moment (y : Fin 2048 → EReal) : EReal :=
  Ideal.div (∑ k, y k * y k) (Ideal.ofBits .f32 0x45000000#32) + Ideal.ofBits .f32 0x358637BD#32

/-- The normalised row as the reference computes it. -/
def norm (y g : Fin 2048 → EReal) (k : Fin 2048) : EReal := Ideal.div (y k) (Ideal.sqrt (moment y)) * g k

/-- The divisor is 2048. -/
theorem two_k : Ideal.ofBits .f32 0x45000000#32 = ((2048 : ℝ) : EReal) := by
  simp [Ideal.ofBits, Ideal.ieee, -EReal.coe_mul]; norm_num

/-- The constant under the root is positive. -/
theorem eps_pos : 0 < Ideal.ofBits .f32 0x358637BD#32 := by
  simp [Ideal.ofBits, Ideal.ieee, -EReal.coe_mul]

/-- A square is not negative. -/
theorem sq_nonneg (a : EReal) : 0 ≤ a * a := by
  rcases le_total 0 a with h | h
  · exact mul_nonneg h h
  · have := mul_nonneg (EReal.neg_nonneg.2 h) (EReal.neg_nonneg.2 h)
    rwa [neg_mul_neg] at this

/-- The mean of squares plus the constant is positive. -/
theorem moment_pos (y : Fin 2048 → EReal) : 0 < moment y := by
  unfold moment
  rw [two_k, Ideal.div_coe (by norm_num)]
  refine lt_of_lt_of_le eps_pos (le_add_of_nonneg_left (mul_nonneg (Finset.sum_nonneg fun k _ => sq_nonneg (y k)) ?_))
  exact_mod_cast (by norm_num : (0 : ℝ) ≤ 1 / 2048)

/-- Where the argument is positive, a product with the reciprocal root is the quotient by the root. -/
theorem scale (a v : EReal) (hv : 0 < v) : a * Ideal.rsqrt v = Ideal.div a (Ideal.sqrt v) := by
  induction v with
  | bot => exact absurd hv (not_lt_bot)
  | top => rw [Ideal.rsqrt_top, Ideal.sqrt_top, Ideal.div, if_neg EReal.top_ne_zero, EReal.inv_top]
  | coe r =>
    have hr : 0 < r := by exact_mod_cast hv
    have hs : Real.sqrt r ≠ 0 := (Real.sqrt_pos.2 hr).ne'
    rw [Ideal.rsqrt_coe, Ideal.sqrt_coe, if_neg hr.le.not_gt, if_neg hr.ne', if_neg hr.le.not_gt, Ideal.div_coe hs, one_div]

/-- The normalised row as the kernel computes it is the reference's. -/
theorem norm_eq (y g : Fin 2048 → EReal) (k : Fin 2048) : y k * Ideal.rsqrt (moment y) * g k = norm y g k := by
  unfold norm; rw [scale _ _ (moment_pos y)]

end Cert.Proof.Row

end
-- ==== Proof.Chunk.lean ====
module

public import proofs.«01_k».proof.Proof.Ends
public import proofs.«01_k».proof.Proof.Row
public import Idealize.ShloMosaic.Lib.Pointwise

/-! What a device's chunks hold over the extended reals: its own result's rows are normalised sums, and a gathered chunk is the
    sender's own. -/

@[expose] public section

noncomputable section

namespace Cert.KernelIdeal.Run

open Idealize.ShloMosaic Idealize.ShloMosaic.TcCoe Idealize.SL.Sem Cert.KernelIdeal Cert.KernelIdeal.Gen Cert.Proof

variable (m : (ℓ : Loc nD τ sig) → Buf (Elt Ideal) ℓ) (c : Dev nD)

/-- One element of the normalised chunk. -/
theorem pay_row (g : FVec Ideal S1x2048 .f32) (p : FVec Ideal S32x2048 .f32) (x : FVec Ideal S32x2048 .bf16) (r : FVec Ideal S32x2048 .f32)
    (a : Fin 32) (b : Fin 2048) :
    k0_pay19 g p x r (ix2 a b) = Row.norm (fun k => p (ix2 a k) + x (ix2 a k) + r (ix2 a k)) (fun k => g (ix2 0 k)) b := by
  refine Eq.trans ?_ (Row.norm_eq _ _ _)
  pointwise [k0_pay19, Row.moment]

/-- A row of a block's chunk, in the whole array. -/
def row (b : Fin 4) (j : Fin 16) (a : Fin 32) : Fin 2048 := ⟨512 * b.val + 32 * j.val + a.val, by omega⟩

/-- The partial array's chunk, element by element. -/
theorem part_at (j : Fin 16) (a : Fin 32) (b : Fin 2048) :
    partC m c j (ix2 a b) = m ((c : Thread nD τ).loc main_arg0) (ix3 0 (row (qo c) j a) b) := by
  have h : (mPart (pOff (qo c) j)).view.emb (ix2 a b) = ix3 0 (row (qo c) j a) b := by
    show (Rect.unit (s := S1x2048x2048) (pOff (qo c) j).1 S1x32x2048.size (pOff (qo c) j).2).emb (Shape.reshapeEquiv _ (ix2 a b)) = _
    rw [show Shape.reshapeEquiv (s := S1x32x2048) (s' := S32x2048) rfl (ix2 a b) = ix3 0 a b from by pointwise]
    funext d
    apply Fin.ext
    fin_cases d
    · rfl
    · show 512 * (qo c).val + 32 * j.val + 1 * a.val = 512 * (qo c).val + 32 * j.val + a.val; omega
    · show 0 + 1 * b.val = b.val; omega
  exact congrArg (m ((c : Thread nD τ).loc main_arg0)) h

/-- The residual's chunk. -/
theorem res_at (j : Fin 16) (a : Fin 32) (b : Fin 2048) :
    resC m c j (ix2 a b) = m ((c : Thread nD τ).loc main_arg1) (ix2 (row (qo c) j a) b) := by
  have h : (mRes (rOff (qo c))).view.emb ((rQ j).emb (ix2 a b)) = ix2 (row (qo c) j a) b := by
    show (Rect.unit (s := S2048x2048) (rOff (qo c)).1 S512x2048.size (rOff (qo c)).2).emb ((rQ j).emb (ix2 a b)) = _
    funext d
    apply Fin.ext
    fin_cases d
    · show 512 * (qo c).val + 1 * (32 * j.val + 1 * a.val) = 512 * (qo c).val + 32 * j.val + a.val; omega
    · show 0 + 1 * (0 + 1 * b.val) = b.val; omega
  exact congrArg (m ((c : Thread nD τ).loc main_arg1)) h

/-- A vector made a row. -/
theorem cast_row (v : FVec Ideal S2048 .f32) (k : Fin 2048) : k0_pay18 (shapeCast S1x2048 v shapeCasts_S2048_S1x2048) (ix2 0 k) = v (ix1 k) := by
  pointwise [k0_pay18]

/-- Gamma's row. -/
theorem gam_at (k : Fin 2048) : k0_pay18 (gamB m c) (ix2 0 k) = m ((c : Thread nD τ).loc main_arg2) (ix1 k) := by
  have h : gamB m c = shapeCast S1x2048 (m ((c : Thread nD τ).loc main_arg2) : FVec Ideal S2048 .f32) shapeCasts_S2048_S1x2048 := by
    show StableHlo.after [_] (V₀ m c) (Proc.devRef .tc main_v1) = _
    rw [StableHlo.after_cons, StableHlo.after_nil, StableHlo.reshape_result]
    rfl
  rw [h]
  exact cast_row _ k

/-- What goes across x is the partial chunk itself. -/
theorem xv_at (j : Fin 16) (a : Fin 32) (b : Fin 2048) : xv m c j (ix2 a b) = partC m c j (ix2 a b) := by
  unfold xv
  pointwise [k0_pay1]

/-- A gathered chunk widened is the chunk itself. -/
theorem pay_gather (g : FVec Ideal S1x2048 .f32) (p : FVec Ideal S32x2048 .f32) (x : FVec Ideal S32x2048 .bf16) (r : FVec Ideal S32x2048 .f32)
    (a : Fin 32) (b : Fin 2048) : k0_pay62 (k0_pay20 g p x r) (ix2 a b) = k0_pay19 g p x r (ix2 a b) := by
  unfold k0_pay20
  generalize k0_pay19 g p x r = X
  pointwise [k0_pay62]

/-- A gathered chunk is the sender's own. -/
theorem uv_at (j : Fin 16) (a : Fin 32) (b : Fin 2048) : uv m c j (ix2 a b) = ov m c j (ix2 a b) := pay_gather _ _ _ _ a b

end Cert.KernelIdeal.Run

end
-- ==== Proof.Equation.lean ====
module

public import proofs.«01_k».proof.Proof.Chunk
public import proofs.«01_k».proof.Proof.Gen.ReferenceIdeal
public import Idealize.ShloMosaic.Lib.Layout

/-! The equation: every device's output is the reference's result, over the extended reals. -/

@[expose] public section

noncomputable section

namespace Cert.Proof

open Idealize.ShloMosaic Idealize.ShloMosaic.TcCoe Idealize.SL.Sem

/-- One element of the common result: the normalised row of the two partial arrays' sum and the residual. -/
def common (A : (⟨3, ![2, 2048, 2048]⟩ : Shape).Idx → EReal) (B : (⟨2, ![2048, 2048]⟩ : Shape).Idx → EReal) (G : (⟨1, ![2048]⟩ : Shape).Idx → EReal)
    (r k : Fin 2048) : EReal :=
  Row.norm (fun k => A (ix3 0 r k) + A (ix3 1 r k) + B (ix2 r k)) (fun k => G (ix1 k)) k

section Reference
open Cert.ReferenceIdeal Cert.ReferenceIdeal.Gen

/-- What the reference computes, element by element. -/
theorem reference_at (A : FVec Ideal S2x2048x2048 .f32) (B : FVec Ideal S2048x2048 .f32) (G : FVec Ideal S2048 .f32) (r k : Fin 2048) :
    (mulf (Host.divf (addf (Host.reduceAdd A (constant S_ .f32 0x00000000#32) reducesTo_S2x2048x2048_S2048x2048_d0 h_S_) B) (broadcastInDim S2048x2048 ![0, 1] bcast_S2048x1_S2048x2048_0_1 (Host.sqrt (addf (Host.divf (broadcastInDim S2048x1 ![0] bcast_S2048_S2048x1_0 (Host.reduceAdd (mulf (addf (Host.reduceAdd A (constant S_ .f32 0x00000000#32) reducesTo_S2x2048x2048_S2048x2048_d0 h_S_) B) (addf (Host.reduceAdd A (constant S_ .f32 0x00000000#32) reducesTo_S2x2048x2048_S2048x2048_d0 h_S_) B)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 G)) : FVec Ideal S2048x2048 .f32) (ix2 r k) = common A B G r k := by
  pointwise [common, Row.norm, Row.moment]
  simp only [Fin.sum_univ_two]

end Reference

section Kernel
open Cert.KernelIdeal Cert.KernelIdeal.Gen Cert.KernelIdeal.Run

/-- A device's block of the partial array is the slab of its x coordinate. -/
theorem slab_at (A : (⟨3, ![2, 2048, 2048]⟩ : Shape).Idx → EReal) (c : Dev nD) (r k : Fin 2048) :
    (Layout.blockN ⟨3, ![1, 2048, 2048]⟩ ⟨3, ![2, 2048, 2048]⟩ (Layout.meshBlock [2, 2, 2] ![[0], [], []] c) A :
        (⟨3, ![1, 2048, 2048]⟩ : Shape).Idx → EReal) (ix3 0 r k)
      = A (ix3 ⟨c.val / 4, by have := c.isLt; change c.val < 8 at this; omega⟩ r k) := by
  refine congrArg A (funext fun d => Fin.ext ?_)
  have h : c.val < 8 := c.isLt
  rw [Layout.TilesN.idx_val]
  fin_cases d
  · show ((c.val / 4) % 2 * 1 + 0) * 1 + 0 = c.val / 4; omega
  · show 0 * 2048 + r.val = r.val; omega
  · show 0 * 2048 + k.val = k.val; omega

/-- The peer across x computes the same block. -/
theorem qo_xp : ∀ d : Dev nD, qo (xp d) = qo d := by decide +kernel
/-- The device a block comes from computes that block. -/
theorem qo_src : ∀ (c : Dev nD) (b : Fin 4), qo (src c b) = b := by decide +kernel

variable (m : (ℓ : Loc nD τ sig) → Buf (Elt Ideal) ℓ)
  (A : (⟨3, ![2, 2048, 2048]⟩ : Shape).Idx → EReal) (B : (⟨2, ![2048, 2048]⟩ : Shape).Idx → EReal) (G : (⟨1, ![2048]⟩ : Shape).Idx → EReal)
  (h0 : ∀ c : Dev nD, m ((c : Thread nD τ).loc main_arg0)
    = Layout.blockN ⟨3, ![1, 2048, 2048]⟩ ⟨3, ![2, 2048, 2048]⟩ (Layout.meshBlock [2, 2, 2] ![[0], [], []] c) A)
  (h1 : ∀ c : Dev nD, m ((c : Thread nD τ).loc main_arg1) = B)
  (h2 : ∀ c : Dev nD, m ((c : Thread nD τ).loc main_arg2) = G)
include h0 h1 h2

/-- The two devices of an x pair hold the two slabs, and their sum does not depend on which is which. -/
theorem pair_sum (d : Dev nD) (j : Fin 16) (a : Fin 32) (k : Fin 2048) :
    (partC m d j (ix2 a k) + xv m (xp d) j (ix2 a k) : EReal) = A (ix3 0 (row (qo d) j a) k) + A (ix3 1 (row (qo d) j a) k) := by
  rw [xv_at, part_at, part_at, h0, h0, slab_at, slab_at, qo_xp]
  have hx : ∀ d : Dev nD, (d.val / 4 = 0 ∧ (xp d).val / 4 = 1) ∨ (d.val / 4 = 1 ∧ (xp d).val / 4 = 0) := by decide +kernel
  have e (c : Dev nD) (n : Fin 2) (hc : c.val / 4 = n.val) (hlt : c.val / 4 < 2) : (⟨c.val / 4, hlt⟩ : Fin 2) = n := Fin.ext hc
  rcases hx d with ⟨h, h'⟩ | ⟨h, h'⟩
  · rw [e d 0 h, e (xp d) 1 h']
  · rw [e d 1 h, e (xp d) 0 h', add_comm]

/-- A chunk of a device's own result. -/
theorem own_at (d : Dev nD) (j : Fin 16) (a : Fin 32) (k : Fin 2048) :
    ov m d j (ix2 a k) = common A B G (row (qo d) j a) k := by
  unfold ov common
  rw [pay_row]
  congr 1
  · funext k
    rw [pair_sum m A B G h0 h1 h2, res_at, h1]
  · funext k
    rw [gam_at, h2]

/-- A chunk of a device's output, whichever device computed it. -/
theorem out_at (c : Dev nD) (b : Fin 4) (j : Fin 16) (a : Fin 32) (k : Fin 2048) :
    outV m c (b, j) (ix2 a k) = common A B G (row b j a) k := by
  unfold outV
  dsimp only
  split
  · rename_i h; rw [own_at m A B G h0 h1 h2, h]
  · rw [uv_at, own_at m A B G h0 h1 h2, qo_src]

/-- A device's output. -/
theorem output_at (c : Dev nD) (r k : Fin 2048) : outB m c (ix2 r k) = common A B G r k := by
  have hm : (ix2 r k : S2048x2048.Idx) ∈ (Finset.univ : Finset (Fin 4 × Fin 16)).biUnion (fun t => (rG t).set) := by
    rw [rG_cov]; exact Finset.mem_univ _
  obtain ⟨⟨b, j⟩, -, hi⟩ := Finset.mem_biUnion.mp hm
  rw [← Rect.map_emb_univ] at hi
  obtain ⟨x, -, hx⟩ := Finset.mem_map.mp hi
  obtain ⟨a, l, rfl⟩ : ∃ (a : Fin 32) (l : Fin 2048), x = ix2 a l := ⟨x 0, x 1, eq_ix2 x⟩
  have hr : row b j a = r := by
    have := congrArg (fun i : S2048x2048.Idx => (i 0).val) hx
    change 512 * b.val + 32 * j.val + 1 * a.val = r.val at this
    apply Fin.ext; show 512 * b.val + 32 * j.val + a.val = r.val; omega
  have hk : l = k := by
    have := congrArg (fun i : S2048x2048.Idx => (i 1).val) hx
    change 0 + 1 * l.val = k.val at this
    apply Fin.ext; omega
  rw [← hx, ← hr, ← hk]
  exact (Rect.glue_emb rG rG_cov rG_disj (outV m c) (b, j) (ix2 a l)).trans (out_at m A B G h0 h1 h2 c b j a l)

end Kernel

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- Over the extended reals every device ends with the reference's result. -/
theorem same_result : Cert.algebraic_KernelIdeal_ReferenceIdeal := fun m ρ m' ρ' _ hm => by
  have h0 c := (hm c).1
  have h1 c := (hm c).2.1
  have h2 c := (hm c).2.2
  refine ⟨Cert.KernelIdeal.Run.outB m 0,
    (θ_run Cert.KernelIdeal.defs _ _).mono (fun r h c => ⟨(h.1 c).2.2.2.trans ?_, (h.1 c).1, (h.1 c).2.1, (h.1 c).2.2.1⟩)
      (Cert.KernelIdeal.Run.run_main (F := Ideal) m ρ),
    (θ_run Cert.ReferenceIdeal.defs _ _).mono (fun r h => ⟨(h 0).1.trans ?_, (h 0).2⟩)
      (Cert.ReferenceIdeal.Value.run (F := Ideal) m' ρ')⟩
  · funext i
    rw [show i = ix2 (i 0) (i 1) from eq_ix2 i]
    exact (output_at m _ _ _ h0 h1 h2 c _ _).trans (output_at m _ _ _ h0 h1 h2 0 _ _).symm
  · funext i
    rw [show i = ix2 (i 0) (i 1) from eq_ix2 i]
    exact (reference_at _ _ _ _ _).trans (output_at m _ _ _ h0 h1 h2 0 _ _).symm

/-- The certificate: the three frames, the preservation and the equation. -/
theorem claim : Cert.Claim := ⟨Cert.Kernel.Gen.facts, Cert.KernelIdeal.Gen.facts, Cert.ReferenceIdeal.Gen.facts,
  frame_kernel, frame_kernelIdeal, frame_referenceIdeal, trivial, same_result⟩

end Cert.Proof

end
